-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1024 : Shape := ⟨3, ![6, 256, 1024]⟩
abbrev S1 : Shape := ⟨1, ![1]⟩
abbrev S1024x5632 : Shape := ⟨2, ![1024, 5632]⟩
abbrev S8x11264 : Shape := ⟨2, ![8, 11264]⟩
abbrev S11264 : Shape := ⟨1, ![11264]⟩
abbrev S1536x1024 : Shape := ⟨2, ![1536, 1024]⟩
abbrev S1x11264 : Shape := ⟨2, ![1, 11264]⟩
abbrev S1536x11264 : Shape := ⟨2, ![1536, 11264]⟩
abbrev S6x256 : Shape := ⟨2, ![6, 256]⟩
abbrev S1024x512 : Shape := ⟨2, ![1024, 512]⟩
abbrev S8x512 : Shape := ⟨2, ![8, 512]⟩
abbrev S1x512 : Shape := ⟨2, ![1, 512]⟩
abbrev S1536x512 : Shape := ⟨2, ![1536, 512]⟩
abbrev S1x1 : Shape := ⟨2, ![1, 1]⟩
abbrev S256x1024 : Shape := ⟨2, ![256, 1024]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S1x8x512 : Shape := ⟨3, ![1, 8, 512]⟩
abbrev S1x1x1 : Shape := ⟨3, ![1, 1, 1]⟩
abbrev S128x512 : Shape := ⟨2, ![128, 512]⟩
abbrev S32x512 : Shape := ⟨2, ![32, 512]⟩
abbrev S256x512 : Shape := ⟨2, ![256, 512]⟩

abbrev nBuf : Space → Nat
  | .hbm => 10
  | .vmem => 11
  | .smem => 1
  | _ => 0

abbrev bufTy : (tb : Table) → Fin (tcTables nBuf tb) → BufTy
  | .hbm, ⟨0, _⟩ => ⟨S6x256x1024, .bf16⟩
  | .hbm, ⟨1, _⟩ => ⟨S1, .f32⟩
  | .hbm, ⟨2, _⟩ => ⟨S1024x5632, .i8⟩
  | .hbm, ⟨3, _⟩ => ⟨S8x11264, .f32⟩
  | .hbm, ⟨4, _⟩ => ⟨S11264, .f32⟩
  | .hbm, ⟨5, _⟩ => ⟨S1536x1024, .bf16⟩
  | .hbm, ⟨6, _⟩ => ⟨S1x11264, .f32⟩
  | .hbm, ⟨7, _⟩ => ⟨S1536x11264, .bf16⟩
  | .hbm, ⟨8, _⟩ => ⟨S1536x1024, .fp8e4m3⟩
  | .hbm, ⟨9, _⟩ => ⟨S6x256, .f32⟩
  | .local _ .vmem, ⟨0, _⟩ => ⟨S1536x1024, .bf16⟩
  | .local _ .vmem, ⟨1, _⟩ => ⟨S1024x512, .i8⟩
  | .local _ .vmem, ⟨2, _⟩ => ⟨S1024x512, .i8⟩
  | .local _ .vmem, ⟨3, _⟩ => ⟨S8x512, .f32⟩
  | .local _ .vmem, ⟨4, _⟩ => ⟨S8x512, .f32⟩
  | .local _ .vmem, ⟨5, _⟩ => ⟨S1x512, .f32⟩
  | .local _ .vmem, ⟨6, _⟩ => ⟨S1x512, .f32⟩
  | .local _ .vmem, ⟨7, _⟩ => ⟨S1536x512, .bf16⟩
  | .local _ .vmem, ⟨8, _⟩ => ⟨S1536x512, .bf16⟩
  | .local _ .vmem, ⟨9, _⟩ => ⟨S1536x1024, .fp8e4m3⟩
  | .local _ .vmem, ⟨10, _⟩ => ⟨S6x256, .f32⟩
  | .local _ .smem, ⟨0, _⟩ => ⟨S1, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![11, 2], ![false, false]⟩

@[reducible] def k0_t1_loop : Scf.Loop 32 :=
  let c0_i32_75 : BitVec 32 := 0#32
  let c6_i32 : BitVec 32 := 6#32
  let v222 : BitVec 32 := Scalar.addi c0_i32_75 c6_i32
  let c1_i32 : BitVec 32 := 1#32
  ⟨c0_i32_75, v222, c1_i32⟩
def k0_mult1 (k0_t1 : Fin k0_t1_loop.trips) : BitVec 32 :=
  let c0_i32_75 : BitVec 32 := 0#32
  let c1_i32 : BitVec 32 := 1#32
  let arg10 : BitVec 32 := Scf.iv c0_i32_75 c1_i32 k0_t1
  let c256_i32 : BitVec 32 := 256#32
  let v223 : BitVec 32 := Scalar.muli arg10 c256_i32
  v223
def k0_off1 (k0_t1 : Fin k0_t1_loop.trips) : Fin 2 → Nat :=
  let c0_i32_75 : BitVec 32 := 0#32
  let c1_i32 : BitVec 32 := 1#32
  let arg10 : BitVec 32 := Scf.iv c0_i32_75 c1_i32 k0_t1
  let c256_i32 : BitVec 32 := 256#32
  let v223 : BitVec 32 := Scalar.muli arg10 c256_i32
  let v224 : BitVec 32 := v223
  let v225 : Index := Scalar.indexCast v224
  let c0_77 : Index := 0#32
  ![v225.toNat, 0]
def k0_off2 (k0_t1 : Fin k0_t1_loop.trips) : Fin 2 → Nat :=
  let c0_i32_75 : BitVec 32 := 0#32
  let c1_i32 : BitVec 32 := 1#32
  let arg10 : BitVec 32 := Scf.iv c0_i32_75 c1_i32 k0_t1
  let c256_i32 : BitVec 32 := 256#32
  let v223 : BitVec 32 := Scalar.muli arg10 c256_i32
  let v224 : BitVec 32 := v223
  let v235 : Index := Scalar.indexCast v224
  let c0_79 : Index := 0#32
  ![v235.toNat, 0]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let v1 : BitVec 32 := Scalar.addi v0 arg0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let v1 : BitVec 32 := Scalar.addi v0 arg0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg1 c11_i32
  let v1 : BitVec 32 := Scalar.addi v0 arg0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1536x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S6x256x1024 : Shape := ⟨3, ![6, 256, 1024]⟩
abbrev S1 : Shape := ⟨1, ![1]⟩
abbrev S1024x5632 : Shape := ⟨2, ![1024, 5632]⟩
abbrev S8x11264 : Shape := ⟨2, ![8, 11264]⟩
abbrev S11264 : Shape := ⟨1, ![11264]⟩
abbrev S1x11264 : Shape := ⟨2, ![1, 11264]⟩
abbrev S1536x11264 : Shape := ⟨2, ![1536, 11264]⟩
abbrev S1536x1024 : Shape := ⟨2, ![1536, 1024]⟩
abbrev S6x256 : Shape := ⟨2, ![6, 256]⟩
abbrev S8x5632 : Shape := ⟨2, ![8, 5632]⟩
abbrev S8x128x5632 : Shape := ⟨3, ![8, 128, 5632]⟩
abbrev S8x1x5632 : Shape := ⟨3, ![8, 1, 5632]⟩
abbrev S1536x5632 : Shape := ⟨2, ![1536, 5632]⟩

abbrev nBuf : Space → Nat
  | .hbm => 9
  | .vmem => 7
  | .smem => 1
  | _ => 0

abbrev bufTy : (tb : Table) → Fin (tcTables nBuf tb) → BufTy
  | .hbm, ⟨0, _⟩ => ⟨S6x256x1024, .bf16⟩
  | .hbm, ⟨1, _⟩ => ⟨S1, .f32⟩
  | .hbm, ⟨2, _⟩ => ⟨S1024x5632, .i8⟩
  | .hbm, ⟨3, _⟩ => ⟨S8x11264, .f32⟩
  | .hbm, ⟨4, _⟩ => ⟨S11264, .f32⟩
  | .hbm, ⟨5, _⟩ => ⟨S1x11264, .f32⟩
  | .hbm, ⟨6, _⟩ => ⟨S1536x11264, .bf16⟩
  | .hbm, ⟨7, _⟩ => ⟨S1536x1024, .fp8e4m3⟩
  | .hbm, ⟨8, _⟩ => ⟨S6x256, .f32⟩
  | .local _ .vmem, ⟨0, _⟩ => ⟨S6x256x1024, .bf16⟩
  | .local _ .vmem, ⟨1, _⟩ => ⟨S1024x5632, .i8⟩
  | .local _ .vmem, ⟨2, _⟩ => ⟨S8x11264, .f32⟩
  | .local _ .vmem, ⟨3, _⟩ => ⟨S1x11264, .f32⟩
  | .local _ .vmem, ⟨4, _⟩ => ⟨S1536x11264, .bf16⟩
  | .local _ .vmem, ⟨5, _⟩ => ⟨S1536x1024, .fp8e4m3⟩
  | .local _ .vmem, ⟨6, _⟩ => ⟨S6x256, .f32⟩
  | .local _ .smem, ⟨0, _⟩ => ⟨S1, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5632 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x11264 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RunBits.lean ====
module

public import proofs.«01_k».proof.Proof.Gen.Kernel.Frame
public import proofs.«01_k».proof.Proof.Gen.Kernel.Loops

@[expose] public section

set_option maxRecDepth 16384

noncomputable section

/-! The kernel's body, run piece by piece: the part that quantises the activations on the first grid
    point, and the part that multiplies, in its two branches (group scales that fit in fp8, and the
    general ones). -/

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body does after it has read its scales: the test of the group scales, and the branch it selects. -/
def rest (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32) :
    Prog (TpuEff nD τ sig (Elt F) Λ₀ .tc) PUnit := do
  let ⟨v82, cst_30⟩ : Σ' (v82 : IVec S8x512 1), F .f32 ← k0_part12 i arg2 harg2 arg3 harg3 arg4 harg4 arg5 harg5 arg6 harg6 arg7 harg7 arg8 harg8 arg9 harg9 v6 v37 cst_15
  let v93 : BitVec 32 := extractAt ![0, 0, 0] (k0_pay1 v6 v82 cst_30) inpos_S1x1x1_p0_0_0
  let v94 : BitVec 1 := Scalar.cmpi .eq v93 0#32
  let v95 : BitVec 32 := Scalar.extui v94
  let v96 : BitVec 1 := Scalar.cmpi .ne v95 0#32
  if v96 = 1#1 then do
    let ⟨v102, v116, v130, v143⟩ : Σ' (v102 : FVec F S8x512 .bf16) (v116 : FVec F S128x512 .fp8e5m2) (v130 : FVec F S128x512 .fp8e5m2), FVec F S128x512 .bf16 ← k0_part5 i arg2 harg2 arg3 harg3 arg4 harg4 arg5 harg5 arg6 harg6 arg7 harg7 arg8 harg8 arg9 harg9 arg1 v6
    let ⟨v144, v158, v172, v186⟩ : Σ' (v144 : FVec F S128x512 .fp8e5m2) (v158 : FVec F S128x512 .fp8e5m2) (v172 : FVec F S128x512 .fp8e5m2), FVec F S128x512 .fp8e5m2 ← k0_part6 i arg2 harg2 arg3 harg3 arg4 harg4 arg5 harg5 arg6 harg6 arg7 harg7 arg8 harg8 arg9 harg9 arg1 v102 v143
    let ⟨v215, v229⟩ : Σ' (v215 : FVec F S1024x512 .fp8e5m2), FVec F S256x512 .f32 ← k0_part7 i arg2 harg2 arg3 harg3 arg4 harg4 arg5 harg5 arg6 harg6 arg7 harg7 arg8 harg8 arg9 harg9 arg1 v0 v8 v102 v116 v130 v144 v158 v172 v186
    let v265 : FVec F S256x512 .f32 ← k0_part8 i arg2 harg2 arg3 harg3 arg4 harg4 arg5 harg5 arg6 harg6 arg7 harg7 arg8 harg8 arg9 harg9 v0 v8 v215 v229
    let v269 : Vec F S256x512 .bf16 ← Prog.lift (.load arg7 (Rect.unit (s := S1536x512) ![1280, 0] S256x512.size inb_S1536x512_S256x512_1280_0).toLoadRect (View.loadsAt_vmem h_S256x512))
    Prog.lift (.store arg7 (Rect.unit (s := S1536x512) ![1280, 0] S256x512.size inb_S1536x512_S256x512_1280_0) (k0_pay2 v8 v265) Finset.univ (View.stores_vmem h_S256x512 (harg7.storeExact_slice rfl _ packedbf16_S1536x512_S256x512_1280_0) (fun _ => rfl)) (.inl rfl))
    pure ⟨⟩
  else do
    pure ⟨⟩
  let v97 : BitVec 1 := Scalar.xori v94 1#1
  let v98 : BitVec 32 := Scalar.extui v97
  let v99 : BitVec 1 := Scalar.cmpi .ne v98 0#32
  if v99 = 1#1 then do
    let ⟨v100, v115, v130, v140, v141⟩ : Σ' (v100 : FVec F S8x512 .bf16) (v115 : FVec F S128x512 .bf16) (v130 : FVec F S128x512 .bf16) (v140 : FVec F S128x512 .bf16), FVec F S128x512 .bf16 ← k0_part9 i arg2 harg2 arg3 harg3 arg4 harg4 arg5 harg5 arg6 harg6 arg7 harg7 arg8 harg8 arg9 harg9 arg1 v6
    let ⟨v145, v160, v175, v184⟩ : Σ' (v145 : FVec F S128x512 .bf16) (v160 : FVec F S128x512 .bf16) (v175 : FVec F S128x512 .bf16), IVec S128x512 8 ← k0_part10 i arg2 harg2 arg3 harg3 arg4 harg4 arg5 harg5 arg6 harg6 arg7 harg7 arg8 harg8 arg9 harg9 arg1 v100 v140 v141
    let v191 : Vec F S128x512 .i8 ← Prog.lift (.load arg4 (Rect.unit (s := S1024x512) ![768, 0] S128x512.size inb_S1024x512_S128x512_768_0).toLoadRect (View.loadsAt_vmem h_S128x512))
    let v206 : Vec F S128x512 .i8 ← Prog.lift (.load arg4 (Rect.unit (s := S1024x512) ![896, 0] S128x512.size inb_S1024x512_S128x512_896_0).toLoadRect (View.loadsAt_vmem h_S128x512))
    Scf.Loop.for k0_t1_loop k0_t1_ok ⟨⟩ (k0_t1_body i arg2 harg2 arg3 harg3 arg4 harg4 arg5 harg5 arg6 harg6 arg7 harg7 arg8 harg8 arg9 harg9 arg1 v0 v8 v100 v115 v130 v145 v160 v175 v184 v191 v206)
    pure ⟨⟩
  else do
    pure ⟨⟩
  pure ⟨⟩

set_option maxRecDepth 65536 in
/-- The body is its first part followed by `rest`. -/
theorem body_eq (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole) :
    cc0_w4a8_linear (F := F) i arg2 harg2 arg3 harg3 arg4 harg4 arg5 harg5 arg6 harg6 arg7 harg7 arg8 harg8 arg9 harg9 =
      k0_part11 i arg2 harg2 arg3 harg3 arg4 harg4 arg5 harg5 arg6 harg6 arg7 harg7 arg8 harg8 arg9 harg9 >>= fun r =>
        rest i arg2 harg2 arg3 harg3 arg4 harg4 arg5 harg5 arg6 harg6 arg7 harg7 arg8 harg8 arg9 harg9 r.1 r.2.1 r.2.2.1 r.2.2.2.1 r.2.2.2.2.1 r.2.2.2.2.2 := rfl

attribute [irreducible] rest

/-- The outcome of the test "every group scale is a power of two from 2^-14 to 2^12", as the body computes it. -/
def fitsBit (v6 : Vec F S8x512 .f32) (v37 : IVec S8x512 1) (cst_15 : F .f32) : BitVec 1 :=
  Scalar.cmpi .eq (extractAt ![0, 0, 0] (k0_pay1 v6 (k0_pay55 v6 v37 cst_15) (Scalar.ofBits .f32 0x45000000#32)) inpos_S1x1x1_p0_0_0) 0#32

theorem take_of_one {b : BitVec 1} (h : b = 1#1) : Scalar.cmpi .ne (Scalar.extui b : BitVec 32) 0#32 = 1#1 := by subst h; decide
theorem skip_of_one {b : BitVec 1} (h : b = 1#1) : ¬ Scalar.cmpi .ne (Scalar.extui (Scalar.xori b 1#1) : BitVec 32) 0#32 = 1#1 := by subst h; decide
theorem skip_of_not {b : BitVec 1} (h : ¬ b = 1#1) : ¬ Scalar.cmpi .ne (Scalar.extui b : BitVec 32) 0#32 = 1#1 := by
  revert h; revert b; decide
theorem take_of_not {b : BitVec 1} (h : ¬ b = 1#1) : Scalar.cmpi .ne (Scalar.extui (Scalar.xori b 1#1) : BitVec 32) 0#32 = 1#1 := by
  revert h; revert b; decide

/-- The five values the first part hands on: the coordinate, the activation scale, the group scales,
    the channel scales and the first compares of the test. -/
abbrev Res (F : FTy → Type) := Σ' (arg1 : BitVec 32) (v0 : Elt F .f32) (v6 : Vec F S8x512 .f32) (v8 : FVec F S1x512 .f32) (v37 : IVec S8x512 1), F .f32

set_option maxHeartbeats 1000000 in
/-- On the first grid point the first part stores the quantised activations and the per-row maxima, and returns the scales it read. -/
@[irreducible] def headFirst (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : k0_cond1 i = 1#1) :
    Σ' (r : Res F) (L8 : List (View.Piece (Elt F) S1536x1024 .fp8e4m3)), { L9 : List (View.Piece (Elt F) S6x256 .f32) //
      ∀ (E : Set ℕ) (K : Res F → sProp 𝕄),
        iprop(owns (c : Thread nD τ) arg2 fullShare x2 ∗ owns (c : Thread nD τ) arg3 fullShare x3 ∗ owns (c : Thread nD τ) arg5 fullShare x5 ∗ owns (c : Thread nD τ) arg6 fullShare x6 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg5 fullShare x5 ∗ owns (c : Thread nD τ) arg6 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K r))
          ⊢ wp frame (wpE (defs₀ (F := F)) Variants.none c none) E (k0_part11 i arg2 harg2 arg3 harg3 arg4 harg4 arg5 harg5 arg6 harg6 arg7 harg7 arg8 harg8 arg9 harg9) K } := by
  refine ⟨?_, ?_, ?_, fun E K => ?run⟩
  case run =>
    simp only [k0_part11_eq_skeleton]; unfold k0_part11_skel
    simp only [k0_part1_eq_skeleton, k0_part2_eq_skeleton, k0_part3_eq_skeleton, k0_part4_eq_skeleton]
    unfold owns
    iintro ⟨⟨%f2, %hf2, H2⟩, ⟨%f3, %hf3, H3⟩, ⟨%f5, %hf5, H5⟩, ⟨%f6, %hf6, H6⟩, ⟨%d8, %f8, -, H8⟩, ⟨%d9, %f9, -, H9⟩, Hk⟩
    obtain rfl := harg2.eq_unread hf2; obtain rfl := harg3.eq_unread hf3; obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H8]; · iexists _; iexact H8
    iexists _; iexact H9

set_option maxHeartbeats 1000000 in
/-- On every other grid point the first part only reads the scales. -/
@[irreducible] def headLater (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : ¬ k0_cond1 i = 1#1) :
    { r : Res F //
      ∀ (E : Set ℕ) (K : Res F → sProp 𝕄),
        iprop(owns (c : Thread nD τ) arg2 fullShare x2 ∗ owns (c : Thread nD τ) arg3 fullShare x3 ∗ owns (c : Thread nD τ) arg5 fullShare x5 ∗ owns (c : Thread nD τ) arg6 fullShare x6
            ∗ (iprop(owns (c : Thread nD τ) arg2 fullShare x2 ∗ owns (c : Thread nD τ) arg3 fullShare x3 ∗ owns (c : Thread nD τ) arg5 fullShare x5 ∗ owns (c : Thread nD τ) arg6 fullShare x6) -∗ K r))
          ⊢ wp frame (wpE (defs₀ (F := F)) Variants.none c none) E (k0_part11 i arg2 harg2 arg3 harg3 arg4 harg4 arg5 harg5 arg6 harg6 arg7 harg7 arg8 harg8 arg9 harg9) K } := by
  refine ⟨?_, fun E K => ?run⟩
  case run =>
    simp only [k0_part11_eq_skeleton]; unfold k0_part11_skel
    simp only [k0_part1_eq_skeleton, k0_part2_eq_skeleton, k0_part3_eq_skeleton, k0_part4_eq_skeleton]
    unfold owns
    iintro ⟨⟨%f2, %hf2, H2⟩, ⟨%f3, %hf3, H3⟩, ⟨%f5, %hf5, H5⟩, ⟨%f6, %hf6, H6⟩, Hk⟩
    obtain rfl := harg2.eq_unread hf2; obtain rfl := harg3.eq_unread hf3; obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    iexists _; isplitr; · ipureintro; exact harg6.read_unread _
    iexact H6

set_option maxHeartbeats 1000000 in
/-- Where every group scale fits in fp8, the body multiplies the fp8 weights in one sweep over the six row tiles. -/
@[irreducible] def restFast (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32)
    (x4 : Vec F S1024x512 .i8) (x8 : Vec F S1536x1024 .fp8e4m3) (hc : fitsBit v6 v37 cst_15 = 1#1) :
    { L7 : List (View.Piece (Elt F) S1536x512 .bf16) //
      ∀ (E : Set ℕ) (K : PUnit → sProp 𝕄),
        iprop(owns (c : Thread nD τ) arg4 fullShare x4 ∗ owns (c : Thread nD τ) arg8 fullShare x8 ∗ (∃ d, owns (c : Thread nD τ) arg7 fullShare d)
            ∗ (iprop(owns (c : Thread nD τ) arg4 fullShare x4 ∗ owns (c : Thread nD τ) arg8 fullShare x8 ∗ (∃ f, arg7.view.loc (c : Thread nD τ) ↦[arg7.view.set]{fullShare} arg7.view.writes (Elt F) f L7)) -∗ K ⟨⟩))
          ⊢ wp frame (wpE (defs₀ (F := F)) Variants.none c none) E (rest i arg2 harg2 arg3 harg3 arg4 harg4 arg5 harg5 arg6 harg6 arg7 harg7 arg8 harg8 arg9 harg9 arg1 v0 v6 v8 v37 cst_15) K } := by
  refine ⟨?_, fun E K => ?run⟩
  case run =>
    have ht := take_of_one hc
    have hs := skip_of_one hc
    unfold fitsBit at ht hs
    unfold rest
    simp only [k0_part12_eq_skeleton, k0_part5_eq_skeleton, k0_part6_eq_skeleton, k0_part7_eq_skeleton, k0_part8_eq_skeleton, k0_part9_eq_skeleton, k0_part10_eq_skeleton]
    unfold owns
    iintro ⟨⟨%f4, %hf4, H4⟩, ⟨%f8, %hf8, H8⟩, ⟨%d7, %f7, -, H7⟩, Hk⟩
    obtain rfl := harg4.eq_unread hf4; obtain rfl := harg8.eq_unread hf8
    sl_exec
    sl_step
    iapply Hk
    isplitl [H4]
    · iexists _; isplitr; · ipureintro; exact harg4.read_unread _
      iexact H4
    isplitl [H8]
    · iexists _; isplitr; · ipureintro; exact harg8.read_unread _
      iexact H8
    iexists _; iexact H7

set_option maxHeartbeats 1000000 in
/-- Where some group scale does not fit, the body multiplies bf16 weights in a loop over the six row tiles. -/
@[irreducible] def restGeneral (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32)
    (x4 : Vec F S1024x512 .i8) (x8 : Vec F S1536x1024 .fp8e4m3) (hc : ¬ fitsBit v6 v37 cst_15 = 1#1) :
    { L7 : List (View.Piece (Elt F) S1536x512 .bf16) //
      ∀ (E : Set ℕ) (K : PUnit → sProp 𝕄),
        iprop(owns (c : Thread nD τ) arg4 fullShare x4 ∗ owns (c : Thread nD τ) arg8 fullShare x8 ∗ (∃ d, owns (c : Thread nD τ) arg7 fullShare d)
            ∗ (iprop(owns (c : Thread nD τ) arg4 fullShare x4 ∗ owns (c : Thread nD τ) arg8 fullShare x8 ∗ (∃ f, arg7.view.loc (c : Thread nD τ) ↦[arg7.view.set]{fullShare} arg7.view.writes (Elt F) f L7)) -∗ K ⟨⟩))
          ⊢ wp frame (wpE (defs₀ (F := F)) Variants.none c none) E (rest i arg2 harg2 arg3 harg3 arg4 harg4 arg5 harg5 arg6 harg6 arg7 harg7 arg8 harg8 arg9 harg9 arg1 v0 v6 v8 v37 cst_15) K } := by
  refine ⟨?_, fun E K => ?run⟩
  case run =>
    have ht := skip_of_not hc
    have hs := take_of_not hc
    unfold fitsBit at ht hs
    unfold rest
    simp only [k0_part12_eq_skeleton, k0_part5_eq_skeleton, k0_part6_eq_skeleton, k0_part7_eq_skeleton, k0_part8_eq_skeleton, k0_part9_eq_skeleton, k0_part10_eq_skeleton]
    unfold owns
    iintro ⟨⟨%f4, %hf4, H4⟩, ⟨%f8, %hf8, H8⟩, ⟨%d7, %f7, -, H7⟩, Hk⟩
    obtain rfl := harg4.eq_unread hf4; obtain rfl := harg8.eq_unread hf8
    sl_exec
    sl_step
    iapply Hk
    isplitl [H4]
    · iexists _; isplitr; · ipureintro; exact harg4.read_unread _
      iexact H4
    isplitl [H8]
    · iexists _; isplitr; · ipureintro; exact harg8.read_unread _
      iexact H8
    iexists _; iexact H7

end Cert.Kernel.Run

end
-- ==== Proof.FrameBits.lean ====
module

public import proofs.«01_k».proof.Proof.RunBits
public import Idealize.ShloMosaic.Lib.Claim

@[expose] public section

set_option maxRecDepth 16384

noncomputable section

/-! The kernel's frame: what the body leaves in the three results' blocks at every grid point, and
    that every run of the program ends, with its arguments unchanged. -/

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores of the quantised activations fill their block. -/
theorem cover8 (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : k0_cond1 i = 1#1) (y : S1536x1024.Idx) :
    ∃ pc ∈ (headFirst c i arg2 harg2 arg3 harg3 arg4 harg4 arg5 harg5 arg6 harg6 arg7 harg7 arg8 harg8 arg9 harg9 x2 x3 x5 x6 hc).2.1, y ∈ pc.1.set :=
  View.cover_of_tiledL (headFirst c i arg2 harg2 arg3 harg3 arg4 harg4 arg5 harg5 arg6 harg6 arg7 harg7 arg8 harg8 arg9 harg9 x2 x3 x5 x6 hc).2.1 ![256, 1024] (by sl_kernel_rfl) y

/-- The first point's stores of the row maxima fill their block. -/
theorem cover9 (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : k0_cond1 i = 1#1) (y : S6x256.Idx) :
    ∃ pc ∈ (headFirst c i arg2 harg2 arg3 harg3 arg4 harg4 arg5 harg5 arg6 harg6 arg7 harg7 arg8 harg8 arg9 harg9 x2 x3 x5 x6 hc).2.2.1, y ∈ pc.1.set :=
  View.cover_of_tiledL (headFirst c i arg2 harg2 arg3 harg3 arg4 harg4 arg5 harg5 arg6 harg6 arg7 harg7 arg8 harg8 arg9 harg9 x2 x3 x5 x6 hc).2.2.1 ![1, 256] (by sl_kernel_rfl) y

/-- The stores of the product fill its block (scales that fit). -/
theorem coverFast (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32) (x4 : Vec F S1024x512 .i8) (x8 : Vec F S1536x1024 .fp8e4m3) (hf : fitsBit v6 v37 cst_15 = 1#1) (y : S1536x512.Idx) :
    ∃ pc ∈ (restFast c i arg2 harg2 arg3 harg3 arg4 harg4 arg5 harg5 arg6 harg6 arg7 harg7 arg8 harg8 arg9 harg9 arg1 v0 v6 v8 v37 cst_15 x4 x8 hf).1, y ∈ pc.1.set :=
  View.cover_of_tiledL (restFast c i arg2 harg2 arg3 harg3 arg4 harg4 arg5 harg5 arg6 harg6 arg7 harg7 arg8 harg8 arg9 harg9 arg1 v0 v6 v8 v37 cst_15 x4 x8 hf).1 ![256, 512] (by sl_kernel_rfl) y

/-- One trip of the general branch's loop stores one piece: the product's rows of its tile. -/
theorem trip_eq (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v8 : FVec F S1x512 .f32) (v100 : FVec F S8x512 .bf16) (v115 : FVec F S128x512 .bf16) (v130 : FVec F S128x512 .bf16) (v145 : FVec F S128x512 .bf16) (v160 : FVec F S128x512 .bf16) (v175 : FVec F S128x512 .bf16) (v184 : IVec S128x512 8) (v191 : Vec F S128x512 .i8) (v206 : Vec F S128x512 .i8) (X : BufTy.Contents (Elt F) arg8.view.ty) (k : Fin k0_t1_loop.trips) :
    tripL_k0_t1 (F := F) Variants.none c none i arg2 harg2 arg3 harg3 arg4 harg4 arg5 harg5 arg6 harg6 arg7 harg7 arg8 harg8 arg9 harg9 arg1 v0 v8 v100 v115 v130 v145 v160 v175 v184 v191 v206 X k =
      [⟨Rect.unit (s := S1536x512) (k0_off2 k) S256x512.size (k0_off2_inb k), k0_pay3 arg1 v0 v8 v100 v115 v130 v145 v160 v175 v184 v191 v206
        (View.readAt (Elt F) arg8.view (Rect.unit (s := S1536x1024) (k0_off1 k) S256x1024.size (k0_off1_inb k)).toLoadRect X)⟩] := by
  unfold tripL_k0_t1 trip_k0_t1; rfl

/-- The rows a trip stores start at 256 times its number, -/
theorem off2_eq : ∀ k : Fin k0_t1_loop.trips, k0_off2 k = ![256 * k.val, 0] := by decide +kernel
/-- and so do the rows it reads. -/
theorem off1_eq : ∀ k : Fin k0_t1_loop.trips, k0_off1 k = ![256 * k.val, 0] := by decide +kernel
theorem trips_eq : k0_t1_loop.trips = 6 := by decide +kernel

/-- The trips before the `n`-th fill the first `256 n` rows. -/
theorem coverTrips (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v8 : FVec F S1x512 .f32) (v100 : FVec F S8x512 .bf16) (v115 : FVec F S128x512 .bf16) (v130 : FVec F S128x512 .bf16) (v145 : FVec F S128x512 .bf16) (v160 : FVec F S128x512 .bf16) (v175 : FVec F S128x512 .bf16) (v184 : IVec S128x512 8) (v191 : Vec F S128x512 .i8) (v206 : Vec F S128x512 .i8) (X : BufTy.Contents (Elt F) arg8.view.ty) (n : ℕ) (hn : n ≤ k0_t1_loop.trips) (y : S1536x512.Idx) (hy : (y 0).val < 256 * n) :
    ∃ pc ∈ pb_k0_t1 (F := F) Variants.none c none i arg2 harg2 arg3 harg3 arg4 harg4 arg5 harg5 arg6 harg6 arg7 harg7 arg8 harg8 arg9 harg9 arg1 v0 v8 v100 v115 v130 v145 v160 v175 v184 v191 v206 X n, y ∈ pc.1.set := by
  induction n with
  | zero => omega
  | succ n ih =>
    rw [pb_k0_t1_succ (F := F) Variants.none c none i arg2 harg2 arg3 harg3 arg4 harg4 arg5 harg5 arg6 harg6 arg7 harg7 arg8 harg8 arg9 harg9 arg1 v0 v8 v100 v115 v130 v145 v160 v175 v184 v191 v206 X ⟨n, hn⟩, trip_eq]
    by_cases h : (y 0).val < 256 * n
    · obtain ⟨pc, hm, hs⟩ := ih (by omega) h
      exact ⟨pc, List.mem_append_right _ hm, hs⟩
    · refine ⟨_, List.mem_append_left _ (List.mem_singleton_self _), ?_⟩
      rw [Rect.mem_set_unit]
      intro a
      have h1 : (y 1).val < 512 := (y 1).isLt
      rw [off2_eq]
      match a with
      | ⟨0, _⟩ => exact ⟨by show 256 * n ≤ (y 0).val; omega, by show (y 0).val < 256 * n + 256; omega⟩
      | ⟨1, _⟩ => exact ⟨by show 0 ≤ (y 1).val; omega, by show (y 1).val < 0 + 512; omega⟩

/-- The stores of the product fill its block (general scales). -/
theorem coverGeneral (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32) (x4 : Vec F S1024x512 .i8) (x8 : Vec F S1536x1024 .fp8e4m3) (hf : ¬ fitsBit v6 v37 cst_15 = 1#1) (y : S1536x512.Idx) :
    ∃ pc ∈ (restGeneral c i arg2 harg2 arg3 harg3 arg4 harg4 arg5 harg5 arg6 harg6 arg7 harg7 arg8 harg8 arg9 harg9 arg1 v0 v6 v8 v37 cst_15 x4 x8 hf).1, y ∈ pc.1.set :=
  by unfold restGeneral; exact coverTrips (n := 6) (hn := by rw [trips_eq]) (y := y) (hy := (y 0).isLt) ..

/-- The product block the body leaves, from the scales `r` it read, the packed weights and the quantised activations. -/
def yOf (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (r : Res F) (x4 : Vec F S1024x512 .i8) (x8 : Vec F S1536x1024 .fp8e4m3) : Vec F S1536x512 .bf16 :=
  if hf : fitsBit r.2.2.1 r.2.2.2.2.1 r.2.2.2.2.2 = 1#1 then View.canon (restFast c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).1
  else View.canon (restGeneral c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).1

/-- After its scales are read, the body leaves `yOf` in the product's block and changes nothing else. -/
theorem rest_sound (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (r : Res F) (x4 : Vec F S1024x512 .i8) (x8 : Vec F S1536x1024 .fp8e4m3) (E : Set ℕ) (K : PUnit → sProp 𝕄) :
    iprop(owns (c : Thread nD τ) arg4 fullShare x4 ∗ owns (c : Thread nD τ) arg8 fullShare x8 ∗ (∃ d, owns (c : Thread nD τ) arg7 fullShare d)
        ∗ (iprop(owns (c : Thread nD τ) arg4 fullShare x4 ∗ owns (c : Thread nD τ) arg8 fullShare x8 ∗ owns (c : Thread nD τ) arg7 fullShare (yOf c i arg2 harg2 arg3 harg3 arg4 harg4 arg5 harg5 arg6 harg6 arg7 harg7 arg8 harg8 arg9 harg9 r x4 x8)) -∗ K ⟨⟩))
      ⊢ wp frame (wpE (defs₀ (F := F)) Variants.none c none) E (rest i arg2 harg2 arg3 harg3 arg4 harg4 arg5 harg5 arg6 harg6 arg7 harg7 arg8 harg8 arg9 harg9 r.1 r.2.1 r.2.2.1 r.2.2.2.1 r.2.2.2.2.1 r.2.2.2.2.2) K := by
  unfold yOf
  by_cases hf : fitsBit r.2.2.1 r.2.2.2.2.1 r.2.2.2.2.2 = 1#1
  · rw [dif_pos hf]
    iintro ⟨H4, H8, H7, Hk⟩
    iapply (restFast c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).2 E K
    isplitl [H4]; · iexact H4
    isplitl [H8]; · iexact H8
    isplitl [H7]; · iexact H7
    iintro ⟨H4, H8, ⟨%e7, H7⟩⟩
    iapply Hk
    isplitl [H4]; · iexact H4
    isplitl [H8]; · iexact H8
    unfold owns; iexists _; isplitr
    swap; · iexact H7
    ipureintro; exact View.read_writes_eq_canon _ _ _ (coverFast c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf)
  · rw [dif_neg hf]
    iintro ⟨H4, H8, H7, Hk⟩
    iapply (restGeneral c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).2 E K
    isplitl [H4]; · iexact H4
    isplitl [H8]; · iexact H8
    isplitl [H7]; · iexact H7
    iintro ⟨H4, H8, ⟨%e7, H7⟩⟩
    iapply Hk
    isplitl [H4]; · iexact H4
    isplitl [H8]; · iexact H8
    unfold owns; iexists _; isplitr
    swap; · iexact H7
    ipureintro; exact View.read_writes_eq_canon _ _ _ (coverGeneral c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf)

set_option maxRecDepth 65536 in
/-- The whole body on the first grid point. -/
theorem body_first (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x4 : Vec F S1024x512 .i8) (x5 : Vec F S8x512 .f32) (x6 : Vec F S1x512 .f32) (hc : k0_cond1 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (yOf c i arg2 harg2 arg3 harg3 arg4 harg4 arg5 harg5 arg6 harg6 arg7 harg7 arg8 harg8 arg9 harg9 (headFirst c i arg2 harg2 arg3 harg3 arg4 harg4 arg5 harg5 arg6 harg6 arg7 harg7 arg8 harg8 arg9 harg9 x2 x3 x5 x6 hc).1 x4 (View.canon (headFirst c i arg2 harg2 arg3 harg3 arg4 harg4 arg5 harg5 arg6 harg6 arg7 harg7 arg8 harg8 arg9 harg9 x2 x3 x5 x6 hc).2.1)) ∗ owns (c : Thread nD τ) arg8 fullShare (View.canon (headFirst c i arg2 harg2 arg3 harg3 arg4 harg4 arg5 harg5 arg6 harg6 arg7 harg7 arg8 harg8 arg9 harg9 x2 x3 x5 x6 hc).2.1) ∗ owns (c : Thread nD τ) arg9 fullShare (View.canon (headFirst c i arg2 harg2 arg3 harg3 arg4 harg4 arg5 harg5 arg6 harg6 arg7 harg7 arg8 harg8 arg9 harg9 x2 x3 x5 x6 hc).2.2.1)) -∗ K ⟨⟩))
      ⊢ wp frame (wpE (defs₀ (F := F)) Variants.none c none) E (cc0_w4a8_linear i arg2 harg2 arg3 harg3 arg4 harg4 arg5 harg5 arg6 harg6 arg7 harg7 arg8 harg8 arg9 harg9) K := by
  refine triple_restated (Q' := K) ?_ (congrArg (wp frame (wpE (defs₀ (F := F)) Variants.none c none) E) (body_eq i arg2 harg2 arg3 harg3 arg4 harg4 arg5 harg5 arg6 harg6 arg7 harg7 arg8 harg8 arg9 harg9).symm) .rfl fun _ => .rfl
  rw [wp_bind]
  iintro ⟨H2, H3, H4, H5, H6, H7, H8, H9, Hk⟩
  iapply (headFirst c i arg2 harg2 arg3 harg3 arg4 harg4 arg5 harg5 arg6 harg6 arg7 harg7 arg8 harg8 arg9 harg9 x2 x3 x5 x6 hc).2.2.2 E _
  isplitl [H2]; · iexact H2
  isplitl [H3]; · iexact H3
  isplitl [H5]; · iexact H5
  isplitl [H6]; · iexact H6
  isplitl [H8]; · iexact H8
  isplitl [H9]; · iexact H9
  iintro ⟨H2, H3, H5, H6, ⟨%e8, H8⟩, ⟨%e9, H9⟩⟩
  iapply rest_sound c i arg2 harg2 arg3 harg3 arg4 harg4 arg5 harg5 arg6 harg6 arg7 harg7 arg8 harg8 arg9 harg9 (headFirst c i arg2 harg2 arg3 harg3 arg4 harg4 arg5 harg5 arg6 harg6 arg7 harg7 arg8 harg8 arg9 harg9 x2 x3 x5 x6 hc).1 x4 (View.canon (headFirst c i arg2 harg2 arg3 harg3 arg4 harg4 arg5 harg5 arg6 harg6 arg7 harg7 arg8 harg8 arg9 harg9 x2 x3 x5 x6 hc).2.1) E K
  isplitl [H4]; · iexact H4
  isplitl [H8]
  · unfold owns; iexists _; isplitr
    swap; · iexact H8
    ipureintro; exact View.read_writes_eq_canon _ _ _ (cover8 c i arg2 harg2 arg3 harg3 arg4 harg4 arg5 harg5 arg6 harg6 arg7 harg7 arg8 harg8 arg9 harg9 x2 x3 x5 x6 hc)
  isplitl [H7]; · iexact H7
  iintro ⟨H4, H8, H7⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_eq_canon _ _ _ (cover9 c i arg2 harg2 arg3 harg3 arg4 harg4 arg5 harg5 arg6 harg6 arg7 harg7 arg8 harg8 arg9 harg9 x2 x3 x5 x6 hc)

set_option maxRecDepth 65536 in
/-- The whole body on a later grid point. -/
theorem body_later (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x4 : Vec F S1024x512 .i8) (x5 : Vec F S8x512 .f32) (x6 : Vec F S1x512 .f32) (x8 : Vec F S1536x1024 .fp8e4m3) (hc : ¬ k0_cond1 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (yOf c i arg2 harg2 arg3 harg3 arg4 harg4 arg5 harg5 arg6 harg6 arg7 harg7 arg8 harg8 arg9 harg9 (headLater c i arg2 harg2 arg3 harg3 arg4 harg4 arg5 harg5 arg6 harg6 arg7 harg7 arg8 harg8 arg9 harg9 x2 x3 x5 x6 hc).1 x4 x8) ∗ owns (c : Thread nD τ) arg8 fullShare x8) -∗ K ⟨⟩))
      ⊢ wp frame (wpE (defs₀ (F := F)) Variants.none c none) E (cc0_w4a8_linear i arg2 harg2 arg3 harg3 arg4 harg4 arg5 harg5 arg6 harg6 arg7 harg7 arg8 harg8 arg9 harg9) K := by
  refine triple_restated (Q' := K) ?_ (congrArg (wp frame (wpE (defs₀ (F := F)) Variants.none c none) E) (body_eq i arg2 harg2 arg3 harg3 arg4 harg4 arg5 harg5 arg6 harg6 arg7 harg7 arg8 harg8 arg9 harg9).symm) .rfl fun _ => .rfl
  rw [wp_bind]
  iintro ⟨H2, H3, H4, H5, H6, H7, H8, Hk⟩
  iapply (headLater c i arg2 harg2 arg3 harg3 arg4 harg4 arg5 harg5 arg6 harg6 arg7 harg7 arg8 harg8 arg9 harg9 x2 x3 x5 x6 hc).2 E _
  isplitl [H2]; · iexact H2
  isplitl [H3]; · iexact H3
  isplitl [H5]; · iexact H5
  isplitl [H6]; · iexact H6
  iintro ⟨H2, H3, H5, H6⟩
  iapply rest_sound c i arg2 harg2 arg3 harg3 arg4 harg4 arg5 harg5 arg6 harg6 arg7 harg7 arg8 harg8 arg9 harg9 (headLater c i arg2 harg2 arg3 harg3 arg4 harg4 arg5 harg5 arg6 harg6 arg7 harg7 arg8 harg8 arg9 harg9 x2 x3 x5 x6 hc).1 x4 x8 E K
  isplitl [H4]; · iexact H4
  isplitl [H8]; · iexact H8
  isplitl [H7]; · iexact H7
  iintro ⟨H4, H8, H7⟩
  iapply Hk
  isplitl [H2]; · iexact H2
  isplitl [H3]; · iexact H3
  isplitl [H4]; · iexact H4
  isplitl [H5]; · iexact H5
  isplitl [H6]; · iexact H6
  isplitl [H7]; · iexact H7
  iexact H8

variable (m : (ℓ : Loc nD τ sig) → Buf (Elt F) ℓ) (ρ : Dev nD → PrngReg)

/-! Each window's staging memref at a point, as the pipeline passes it, and that it is whole. -/

abbrev ms0 (t : Fin cfg0.N) : Memref sig .tc .smem S1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1536x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1536x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1536x1024 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S6x256 .f32 := win0_7.stage (cfg0.slots t 7)
abbrev hs7 (t : Fin cfg0.N) : (ms7 t).IsWhole := hstage0_7 ((cfg0.slots t 7).cast nbuf0_7)

/-- The first grid point, -/
def t0 : Fin cfg0.N := ⟨0, by decide⟩

/-- the only one whose coordinates are both zero. -/
theorem first_iff : ∀ t : Fin cfg0.N, k0_cond1 (grid0.coords t) = 1#1 ↔ t = t0 := by decide +kernel

theorem first_t0 : k0_cond1 (grid0.coords t0) = 1#1 := (first_iff t0).mpr rfl

/-- What the first point leaves: the scales it read and the pieces of the quantised activations and of the row maxima. -/
abbrev hd0 (c : Dev nD) := headFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (iblk m c 0 t0) (iblk m c 1 t0) (iblk m c 3 t0) (iblk m c 4 t0) first_t0

/-- The quantised activations, which the first point stores and every later point keeps. -/
def xcAll (c : Dev nD) : Vec F S1536x1024 .fp8e4m3 := View.canon (hd0 m c).2.1
/-- The row maxima, which the first point stores and every later point keeps. -/
def amaxAll (c : Dev nD) : Vec F S6x256 .f32 := View.canon (hd0 m c).2.2.1

/-- The scales the body reads at a point. -/
def resAt (c : Dev nD) (t : Fin cfg0.N) : Res F :=
  if hc : k0_cond1 (grid0.coords t) = 1#1 then (headFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 3 t) (iblk m c 4 t) hc).1
  else (headLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 3 t) (iblk m c 4 t) hc).1

/-- The product block the body leaves at a point. -/
def yAt (c : Dev nD) (t : Fin cfg0.N) : Vec F S1536x512 .bf16 :=
  yOf c (grid0.coords t) (ms0 t) (hs0 t) (ms1 t) (hs1 t) (ms2 t) (hs2 t) (ms3 t) (hs3 t) (ms4 t) (hs4 t) (ms5 t) (hs5 t) (ms6 t) (hs6 t) (ms7 t) (hs7 t) (resAt m c t) (iblk m c 2 t) (xcAll m c)

/-- The pipeline's proof data: after every point an input's block is as fetched, the product's block is `yAt`,
    and the other two results' blocks are those the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => xcAll m c
    | ⟨7, _⟩ => amaxAll m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = yAt m c t := by dsimp only [dats]
theorem after6 (c : Dev nD) (t : Fin cfg0.N) : (dats m 0 c).after 6 t = xcAll m c := by dsimp only [dats]
theorem after7 (c : Dev nD) (t : Fin cfg0.N) : (dats m 0 c).after 7 t = amaxAll m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- Result 2's block is touched only on the first point. -/
theorem idle6 (t : Fin cfg0.N) : cfg0.idle 6 (grid0.coords t) = !(k0_cond1 (grid0.coords t) == 1#1) := rfl

/-- Result 2's block is written back at the last point only. -/
theorem noflush6 (t : Fin cfg0.N) (h : t.val ≠ 21) : (cfg0.win 6).flush t = false := by
  have hN : t.val < 22 := Nat.lt_of_lt_of_le t.isLt (by decide)
  rw [Bool.eq_false_iff]; intro hfl
  have := (flush0_6 t).mp hfl
  omega

/-- What the first point leaves of result 2 is all of its block. -/
theorem kept6 (c : Dev nD) (t : Fin cfg0.N) (d) : (dats m 0 c).kept 6 t d = xcAll m c := by
  unfold Dat.kept
  rw [after6, Pipeline.fill_of_clip_none 6 _ (fun _ => rfl) d (xcAll m c), Window.fill_cut]

/-- Past the first point, result 2's block holds what the first point stored. -/
theorem before6 (c : Dev nD) (n : ℕ) : ∀ (hn : n + 1 < cfg0.N) (d), (dats m 0 c).before 6 ⟨n + 1, hn⟩ d = xcAll m c := by
  induction n with
  | zero =>
    intro hn d
    rw [(dats m 0 c).before_of_pos 6 _ (Nat.succ_ne_zero 0) ((cfg0.win 6).fetch_out rfl _), noflush6 _ (by simp), if_neg Bool.false_ne_true]
    unfold Dat.left
    rw [show cfg0.idle 6 (cfg0.grid.coords ⟨0 + 1 - 1, _⟩) = false from by rw [show (⟨0 + 1 - 1, Nat.lt_of_le_of_lt (Nat.sub_le _ _) hn⟩ : Fin cfg0.N) = t0 from rfl]; decide +kernel]
    exact kept6 m c _ d
  | succ n ih =>
    intro hn d
    have hN : n + 1 + 1 < 22 := Nat.lt_of_lt_of_le hn (by decide)
    rw [(dats m 0 c).before_of_pos 6 _ (Nat.succ_ne_zero _) ((cfg0.win 6).fetch_out rfl _), noflush6 _ (by simp; omega), if_neg Bool.false_ne_true]
    unfold Dat.left
    rw [show cfg0.idle 6 (cfg0.grid.coords ⟨n + 1 + 1 - 1, _⟩) = true from by
      show cfg0.idle 6 (grid0.coords ⟨n + 1 + 1 - 1, Nat.lt_of_le_of_lt (Nat.sub_le _ _) hn⟩) = true
      rw [idle6, beq_eq_false_iff_ne.mpr (fun h => absurd ((first_iff _).mp h) (fun e => absurd (congrArg Fin.val e) (Nat.succ_ne_zero n)))]; rfl]
    exact ih _ d

theorem before6' (c : Dev nD) (t : Fin cfg0.N) (ht : ¬ t = t0) (d) : (dats m 0 c).before 6 t d = xcAll m c := by
  obtain ⟨n, hn⟩ := t
  cases n with
  | zero => exact absurd rfl ht
  | succ n => exact before6 m c n hn d

/-- What the obligation asks of result 2's buffer after a point: what the first point stored. -/
theorem leave6 (c : Dev nD) (t : Fin cfg0.N) :
    owns (c : Thread nD τ) (ms6 t) fullShare ((dats m 0 c).after 6 t) ⊢
      (match cfg0.idle 6 (cfg0.grid.coords t) with
        | true => match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄) := by
  cases hi : cfg0.idle 6 (cfg0.grid.coords t) with
  | false => exact .rfl
  | true =>
    cases (cfg0.win 6).flush t with
    | true => exact .rfl
    | false =>
      have ht : ¬ t = t0 := by
        intro h; subst h
        exact absurd hi (by decide +kernel)
      dsimp only
      rw [after6]
      iintro H
      iexists (xcAll m c)
      rw [before6' m c t ht]
      iexact H
/-- Result 3's block is touched only on the first point. -/
theorem idle7 (t : Fin cfg0.N) : cfg0.idle 7 (grid0.coords t) = !(k0_cond1 (grid0.coords t) == 1#1) := rfl

/-- Result 3's block is written back at the last point only. -/
theorem noflush7 (t : Fin cfg0.N) (h : t.val ≠ 21) : (cfg0.win 7).flush t = false := by
  have hN : t.val < 22 := Nat.lt_of_lt_of_le t.isLt (by decide)
  rw [Bool.eq_false_iff]; intro hfl
  have := (flush0_7 t).mp hfl
  omega

/-- What the first point leaves of result 3 is all of its block. -/
theorem kept7 (c : Dev nD) (t : Fin cfg0.N) (d) : (dats m 0 c).kept 7 t d = amaxAll m c := by
  unfold Dat.kept
  rw [after7, Pipeline.fill_of_clip_none 7 _ (fun _ => rfl) d (amaxAll m c), Window.fill_cut]

/-- Past the first point, result 3's block holds what the first point stored. -/
theorem before7 (c : Dev nD) (n : ℕ) : ∀ (hn : n + 1 < cfg0.N) (d), (dats m 0 c).before 7 ⟨n + 1, hn⟩ d = amaxAll m c := by
  induction n with
  | zero =>
    intro hn d
    rw [(dats m 0 c).before_of_pos 7 _ (Nat.succ_ne_zero 0) ((cfg0.win 7).fetch_out rfl _), noflush7 _ (by simp), if_neg Bool.false_ne_true]
    unfold Dat.left
    rw [show cfg0.idle 7 (cfg0.grid.coords ⟨0 + 1 - 1, _⟩) = false from by rw [show (⟨0 + 1 - 1, Nat.lt_of_le_of_lt (Nat.sub_le _ _) hn⟩ : Fin cfg0.N) = t0 from rfl]; decide +kernel]
    exact kept7 m c _ d
  | succ n ih =>
    intro hn d
    have hN : n + 1 + 1 < 22 := Nat.lt_of_lt_of_le hn (by decide)
    rw [(dats m 0 c).before_of_pos 7 _ (Nat.succ_ne_zero _) ((cfg0.win 7).fetch_out rfl _), noflush7 _ (by simp; omega), if_neg Bool.false_ne_true]
    unfold Dat.left
    rw [show cfg0.idle 7 (cfg0.grid.coords ⟨n + 1 + 1 - 1, _⟩) = true from by
      show cfg0.idle 7 (grid0.coords ⟨n + 1 + 1 - 1, Nat.lt_of_le_of_lt (Nat.sub_le _ _) hn⟩) = true
      rw [idle7, beq_eq_false_iff_ne.mpr (fun h => absurd ((first_iff _).mp h) (fun e => absurd (congrArg Fin.val e) (Nat.succ_ne_zero n)))]; rfl]
    exact ih _ d

theorem before7' (c : Dev nD) (t : Fin cfg0.N) (ht : ¬ t = t0) (d) : (dats m 0 c).before 7 t d = amaxAll m c := by
  obtain ⟨n, hn⟩ := t
  cases n with
  | zero => exact absurd rfl ht
  | succ n => exact before7 m c n hn d

/-- What the obligation asks of result 3's buffer after a point: what the first point stored. -/
theorem leave7 (c : Dev nD) (t : Fin cfg0.N) :
    owns (c : Thread nD τ) (ms7 t) fullShare ((dats m 0 c).after 7 t) ⊢
      (match cfg0.idle 7 (cfg0.grid.coords t) with
        | true => match (cfg0.win 7).flush t with
          | false => iprop(∃ d, owns (c : Thread nD τ) ((cfg0.win 7).stage (cfg0.slots t 7)) fullShare ((dats m 0 c).before 7 t d))
          | true => owns (c : Thread nD τ) ((cfg0.win 7).stage (cfg0.slots t 7)) fullShare ((dats m 0 c).after 7 t)
        | false => owns (c : Thread nD τ) ((cfg0.win 7).stage (cfg0.slots t 7)) fullShare ((dats m 0 c).after 7 t) : sProp 𝕄) := by
  cases hi : cfg0.idle 7 (cfg0.grid.coords t) with
  | false => exact .rfl
  | true =>
    cases (cfg0.win 7).flush t with
    | true => exact .rfl
    | false =>
      have ht : ¬ t = t0 := by
        intro h; subst h
        exact absurd hi (by decide +kernel)
      dsimp only
      rw [after7]
      iintro H
      iexists (amaxAll m c)
      rw [before7' m c t ht]
      iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 800000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases hc : k0_cond1 (grid0.coords t) = 1#1
  · unfold yAt resAt; rw [dif_pos hc]
    obtain rfl := (first_iff t).mp hc
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (iblk m c 0 t0) (iblk m c 1 t0) (iblk m c 2 t0) (iblk m c 3 t0) (iblk m c 4 t0) hc Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · unfold yAt resAt; rw [dif_neg hc]
    have ht : ¬ t = t0 := fun h => hc ((first_iff t).mpr h)
    simp only [before6' m c t ht, before7' m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (xcAll m c) hc Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leave6 m c t); iexact H6
  iapply (leave7 m c t); iexact H7

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, the arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Idealize.ShloMosaic.θ_run_and (unchanged m ρ) ((θ_run defs _ _).mono (fun _ h => h.2) (run_main_quiescent m ρ))

end Cert.Kernel.Run

end
-- ==== Proof.RunIdeal.lean ====
module

public import proofs.«01_k».proof.Proof.Gen.KernelIdeal.Frame
public import proofs.«01_k».proof.Proof.Gen.KernelIdeal.Loops

@[expose] public section

set_option maxRecDepth 16384

noncomputable section

/-! The kernel's body, run piece by piece: the part that quantises the activations on the first grid
    point, and the part that multiplies, in its two branches (group scales that fit in fp8, and the
    general ones). -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body does after it has read its scales: the test of the group scales, and the branch it selects. -/
def rest (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32) :
    Prog (TpuEff nD τ sig (Elt F) Λ₀ .tc) PUnit := do
  let ⟨v82, cst_30⟩ : Σ' (v82 : IVec S8x512 1), F .f32 ← k0_part12 i arg2 harg2 arg3 harg3 arg4 harg4 arg5 harg5 arg6 harg6 arg7 harg7 arg8 harg8 arg9 harg9 v6 v37 cst_15
  let v93 : BitVec 32 := extractAt ![0, 0, 0] (k0_pay1 v6 v82 cst_30) inpos_S1x1x1_p0_0_0
  let v94 : BitVec 1 := Scalar.cmpi .eq v93 0#32
  let v95 : BitVec 32 := Scalar.extui v94
  let v96 : BitVec 1 := Scalar.cmpi .ne v95 0#32
  if v96 = 1#1 then do
    let ⟨v102, v116, v130, v143⟩ : Σ' (v102 : FVec F S8x512 .bf16) (v116 : FVec F S128x512 .fp8e5m2) (v130 : FVec F S128x512 .fp8e5m2), FVec F S128x512 .bf16 ← k0_part5 i arg2 harg2 arg3 harg3 arg4 harg4 arg5 harg5 arg6 harg6 arg7 harg7 arg8 harg8 arg9 harg9 arg1 v6
    let ⟨v144, v158, v172, v186⟩ : Σ' (v144 : FVec F S128x512 .fp8e5m2) (v158 : FVec F S128x512 .fp8e5m2) (v172 : FVec F S128x512 .fp8e5m2), FVec F S128x512 .fp8e5m2 ← k0_part6 i arg2 harg2 arg3 harg3 arg4 harg4 arg5 harg5 arg6 harg6 arg7 harg7 arg8 harg8 arg9 harg9 arg1 v102 v143
    let ⟨v215, v229⟩ : Σ' (v215 : FVec F S1024x512 .fp8e5m2), FVec F S256x512 .f32 ← k0_part7 i arg2 harg2 arg3 harg3 arg4 harg4 arg5 harg5 arg6 harg6 arg7 harg7 arg8 harg8 arg9 harg9 arg1 v0 v8 v102 v116 v130 v144 v158 v172 v186
    let v265 : FVec F S256x512 .f32 ← k0_part8 i arg2 harg2 arg3 harg3 arg4 harg4 arg5 harg5 arg6 harg6 arg7 harg7 arg8 harg8 arg9 harg9 v0 v8 v215 v229
    let v269 : Vec F S256x512 .bf16 ← Prog.lift (.load arg7 (Rect.unit (s := S1536x512) ![1280, 0] S256x512.size inb_S1536x512_S256x512_1280_0).toLoadRect (View.loadsAt_vmem h_S256x512))
    Prog.lift (.store arg7 (Rect.unit (s := S1536x512) ![1280, 0] S256x512.size inb_S1536x512_S256x512_1280_0) (k0_pay2 v8 v265) Finset.univ (View.stores_vmem h_S256x512 (harg7.storeExact_slice rfl _ packedbf16_S1536x512_S256x512_1280_0) (fun _ => rfl)) (.inl rfl))
    pure ⟨⟩
  else do
    pure ⟨⟩
  let v97 : BitVec 1 := Scalar.xori v94 1#1
  let v98 : BitVec 32 := Scalar.extui v97
  let v99 : BitVec 1 := Scalar.cmpi .ne v98 0#32
  if v99 = 1#1 then do
    let ⟨v100, v115, v130, v140, v141⟩ : Σ' (v100 : FVec F S8x512 .bf16) (v115 : FVec F S128x512 .bf16) (v130 : FVec F S128x512 .bf16) (v140 : FVec F S128x512 .bf16), FVec F S128x512 .bf16 ← k0_part9 i arg2 harg2 arg3 harg3 arg4 harg4 arg5 harg5 arg6 harg6 arg7 harg7 arg8 harg8 arg9 harg9 arg1 v6
    let ⟨v145, v160, v175, v184⟩ : Σ' (v145 : FVec F S128x512 .bf16) (v160 : FVec F S128x512 .bf16) (v175 : FVec F S128x512 .bf16), IVec S128x512 8 ← k0_part10 i arg2 harg2 arg3 harg3 arg4 harg4 arg5 harg5 arg6 harg6 arg7 harg7 arg8 harg8 arg9 harg9 arg1 v100 v140 v141
    let v191 : Vec F S128x512 .i8 ← Prog.lift (.load arg4 (Rect.unit (s := S1024x512) ![768, 0] S128x512.size inb_S1024x512_S128x512_768_0).toLoadRect (View.loadsAt_vmem h_S128x512))
    let v206 : Vec F S128x512 .i8 ← Prog.lift (.load arg4 (Rect.unit (s := S1024x512) ![896, 0] S128x512.size inb_S1024x512_S128x512_896_0).toLoadRect (View.loadsAt_vmem h_S128x512))
    Scf.Loop.for k0_t1_loop k0_t1_ok ⟨⟩ (k0_t1_body i arg2 harg2 arg3 harg3 arg4 harg4 arg5 harg5 arg6 harg6 arg7 harg7 arg8 harg8 arg9 harg9 arg1 v0 v8 v100 v115 v130 v145 v160 v175 v184 v191 v206)
    pure ⟨⟩
  else do
    pure ⟨⟩
  pure ⟨⟩

set_option maxRecDepth 65536 in
/-- The body is its first part followed by `rest`. -/
theorem body_eq (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole) :
    cc0_w4a8_linear (F := F) i arg2 harg2 arg3 harg3 arg4 harg4 arg5 harg5 arg6 harg6 arg7 harg7 arg8 harg8 arg9 harg9 =
      k0_part11 i arg2 harg2 arg3 harg3 arg4 harg4 arg5 harg5 arg6 harg6 arg7 harg7 arg8 harg8 arg9 harg9 >>= fun r =>
        rest i arg2 harg2 arg3 harg3 arg4 harg4 arg5 harg5 arg6 harg6 arg7 harg7 arg8 harg8 arg9 harg9 r.1 r.2.1 r.2.2.1 r.2.2.2.1 r.2.2.2.2.1 r.2.2.2.2.2 := rfl

attribute [irreducible] rest

/-- The outcome of the test "every group scale is a power of two from 2^-14 to 2^12", as the body computes it. -/
def fitsBit (v6 : Vec F S8x512 .f32) (v37 : IVec S8x512 1) (cst_15 : F .f32) : BitVec 1 :=
  Scalar.cmpi .eq (extractAt ![0, 0, 0] (k0_pay1 v6 (k0_pay55 v6 v37 cst_15) (Scalar.ofBits .f32 0x45000000#32)) inpos_S1x1x1_p0_0_0) 0#32

theorem take_of_one {b : BitVec 1} (h : b = 1#1) : Scalar.cmpi .ne (Scalar.extui b : BitVec 32) 0#32 = 1#1 := by subst h; decide
theorem skip_of_one {b : BitVec 1} (h : b = 1#1) : ¬ Scalar.cmpi .ne (Scalar.extui (Scalar.xori b 1#1) : BitVec 32) 0#32 = 1#1 := by subst h; decide
theorem skip_of_not {b : BitVec 1} (h : ¬ b = 1#1) : ¬ Scalar.cmpi .ne (Scalar.extui b : BitVec 32) 0#32 = 1#1 := by
  revert h; revert b; decide
theorem take_of_not {b : BitVec 1} (h : ¬ b = 1#1) : Scalar.cmpi .ne (Scalar.extui (Scalar.xori b 1#1) : BitVec 32) 0#32 = 1#1 := by
  revert h; revert b; decide

/-- The five values the first part hands on: the coordinate, the activation scale, the group scales,
    the channel scales and the first compares of the test. -/
abbrev Res (F : FTy → Type) := Σ' (arg1 : BitVec 32) (v0 : Elt F .f32) (v6 : Vec F S8x512 .f32) (v8 : FVec F S1x512 .f32) (v37 : IVec S8x512 1), F .f32

set_option maxHeartbeats 1000000 in
/-- On the first grid point the first part stores the quantised activations and the per-row maxima, and returns the scales it read. -/
@[irreducible] def headFirst (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : k0_cond1 i = 1#1) :
    Σ' (r : Res F) (L8 : List (View.Piece (Elt F) S1536x1024 .fp8e4m3)), { L9 : List (View.Piece (Elt F) S6x256 .f32) //
      ∀ (E : Set ℕ) (K : Res F → sProp 𝕄),
        iprop(owns (c : Thread nD τ) arg2 fullShare x2 ∗ owns (c : Thread nD τ) arg3 fullShare x3 ∗ owns (c : Thread nD τ) arg5 fullShare x5 ∗ owns (c : Thread nD τ) arg6 fullShare x6 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg5 fullShare x5 ∗ owns (c : Thread nD τ) arg6 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K r))
          ⊢ wp frame (wpE (defs₀ (F := F)) Variants.none c none) E (k0_part11 i arg2 harg2 arg3 harg3 arg4 harg4 arg5 harg5 arg6 harg6 arg7 harg7 arg8 harg8 arg9 harg9) K } := by
  refine ⟨?_, ?_, ?_, fun E K => ?run⟩
  case run =>
    simp only [k0_part11_eq_skeleton]; unfold k0_part11_skel
    simp only [k0_part1_eq_skeleton, k0_part2_eq_skeleton, k0_part3_eq_skeleton, k0_part4_eq_skeleton]
    unfold owns
    iintro ⟨⟨%f2, %hf2, H2⟩, ⟨%f3, %hf3, H3⟩, ⟨%f5, %hf5, H5⟩, ⟨%f6, %hf6, H6⟩, ⟨%d8, %f8, -, H8⟩, ⟨%d9, %f9, -, H9⟩, Hk⟩
    obtain rfl := harg2.eq_unread hf2; obtain rfl := harg3.eq_unread hf3; obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H8]; · iexists _; iexact H8
    iexists _; iexact H9

set_option maxHeartbeats 1000000 in
/-- On every other grid point the first part only reads the scales. -/
@[irreducible] def headLater (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : ¬ k0_cond1 i = 1#1) :
    { r : Res F //
      ∀ (E : Set ℕ) (K : Res F → sProp 𝕄),
        iprop(owns (c : Thread nD τ) arg2 fullShare x2 ∗ owns (c : Thread nD τ) arg3 fullShare x3 ∗ owns (c : Thread nD τ) arg5 fullShare x5 ∗ owns (c : Thread nD τ) arg6 fullShare x6
            ∗ (iprop(owns (c : Thread nD τ) arg2 fullShare x2 ∗ owns (c : Thread nD τ) arg3 fullShare x3 ∗ owns (c : Thread nD τ) arg5 fullShare x5 ∗ owns (c : Thread nD τ) arg6 fullShare x6) -∗ K r))
          ⊢ wp frame (wpE (defs₀ (F := F)) Variants.none c none) E (k0_part11 i arg2 harg2 arg3 harg3 arg4 harg4 arg5 harg5 arg6 harg6 arg7 harg7 arg8 harg8 arg9 harg9) K } := by
  refine ⟨?_, fun E K => ?run⟩
  case run =>
    simp only [k0_part11_eq_skeleton]; unfold k0_part11_skel
    simp only [k0_part1_eq_skeleton, k0_part2_eq_skeleton, k0_part3_eq_skeleton, k0_part4_eq_skeleton]
    unfold owns
    iintro ⟨⟨%f2, %hf2, H2⟩, ⟨%f3, %hf3, H3⟩, ⟨%f5, %hf5, H5⟩, ⟨%f6, %hf6, H6⟩, Hk⟩
    obtain rfl := harg2.eq_unread hf2; obtain rfl := harg3.eq_unread hf3; obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    iexists _; isplitr; · ipureintro; exact harg6.read_unread _
    iexact H6

set_option maxHeartbeats 1000000 in
/-- Where every group scale fits in fp8, the body multiplies the fp8 weights in one sweep over the six row tiles. -/
@[irreducible] def restFast (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32)
    (x4 : Vec F S1024x512 .i8) (x8 : Vec F S1536x1024 .fp8e4m3) (hc : fitsBit v6 v37 cst_15 = 1#1) :
    { L7 : List (View.Piece (Elt F) S1536x512 .bf16) //
      ∀ (E : Set ℕ) (K : PUnit → sProp 𝕄),
        iprop(owns (c : Thread nD τ) arg4 fullShare x4 ∗ owns (c : Thread nD τ) arg8 fullShare x8 ∗ (∃ d, owns (c : Thread nD τ) arg7 fullShare d)
            ∗ (iprop(owns (c : Thread nD τ) arg4 fullShare x4 ∗ owns (c : Thread nD τ) arg8 fullShare x8 ∗ (∃ f, arg7.view.loc (c : Thread nD τ) ↦[arg7.view.set]{fullShare} arg7.view.writes (Elt F) f L7)) -∗ K ⟨⟩))
          ⊢ wp frame (wpE (defs₀ (F := F)) Variants.none c none) E (rest i arg2 harg2 arg3 harg3 arg4 harg4 arg5 harg5 arg6 harg6 arg7 harg7 arg8 harg8 arg9 harg9 arg1 v0 v6 v8 v37 cst_15) K } := by
  refine ⟨?_, fun E K => ?run⟩
  case run =>
    have ht := take_of_one hc
    have hs := skip_of_one hc
    unfold fitsBit at ht hs
    unfold rest
    simp only [k0_part12_eq_skeleton, k0_part5_eq_skeleton, k0_part6_eq_skeleton, k0_part7_eq_skeleton, k0_part8_eq_skeleton, k0_part9_eq_skeleton, k0_part10_eq_skeleton]
    unfold owns
    iintro ⟨⟨%f4, %hf4, H4⟩, ⟨%f8, %hf8, H8⟩, ⟨%d7, %f7, -, H7⟩, Hk⟩
    obtain rfl := harg4.eq_unread hf4; obtain rfl := harg8.eq_unread hf8
    sl_exec
    sl_step
    iapply Hk
    isplitl [H4]
    · iexists _; isplitr; · ipureintro; exact harg4.read_unread _
      iexact H4
    isplitl [H8]
    · iexists _; isplitr; · ipureintro; exact harg8.read_unread _
      iexact H8
    iexists _; iexact H7

set_option maxHeartbeats 1000000 in
/-- Where some group scale does not fit, the body multiplies bf16 weights in a loop over the six row tiles. -/
@[irreducible] def restGeneral (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32)
    (x4 : Vec F S1024x512 .i8) (x8 : Vec F S1536x1024 .fp8e4m3) (hc : ¬ fitsBit v6 v37 cst_15 = 1#1) :
    { L7 : List (View.Piece (Elt F) S1536x512 .bf16) //
      ∀ (E : Set ℕ) (K : PUnit → sProp 𝕄),
        iprop(owns (c : Thread nD τ) arg4 fullShare x4 ∗ owns (c : Thread nD τ) arg8 fullShare x8 ∗ (∃ d, owns (c : Thread nD τ) arg7 fullShare d)
            ∗ (iprop(owns (c : Thread nD τ) arg4 fullShare x4 ∗ owns (c : Thread nD τ) arg8 fullShare x8 ∗ (∃ f, arg7.view.loc (c : Thread nD τ) ↦[arg7.view.set]{fullShare} arg7.view.writes (Elt F) f L7)) -∗ K ⟨⟩))
          ⊢ wp frame (wpE (defs₀ (F := F)) Variants.none c none) E (rest i arg2 harg2 arg3 harg3 arg4 harg4 arg5 harg5 arg6 harg6 arg7 harg7 arg8 harg8 arg9 harg9 arg1 v0 v6 v8 v37 cst_15) K } := by
  refine ⟨?_, fun E K => ?run⟩
  case run =>
    have ht := skip_of_not hc
    have hs := take_of_not hc
    unfold fitsBit at ht hs
    unfold rest
    simp only [k0_part12_eq_skeleton, k0_part5_eq_skeleton, k0_part6_eq_skeleton, k0_part7_eq_skeleton, k0_part8_eq_skeleton, k0_part9_eq_skeleton, k0_part10_eq_skeleton]
    unfold owns
    iintro ⟨⟨%f4, %hf4, H4⟩, ⟨%f8, %hf8, H8⟩, ⟨%d7, %f7, -, H7⟩, Hk⟩
    obtain rfl := harg4.eq_unread hf4; obtain rfl := harg8.eq_unread hf8
    sl_exec
    sl_step
    iapply Hk
    isplitl [H4]
    · iexists _; isplitr; · ipureintro; exact harg4.read_unread _
      iexact H4
    isplitl [H8]
    · iexists _; isplitr; · ipureintro; exact harg8.read_unread _
      iexact H8
    iexists _; iexact H7

end Cert.KernelIdeal.Run

end
-- ==== Proof.FrameIdeal.lean ====
module

public import proofs.«01_k».proof.Proof.RunIdeal
public import Idealize.ShloMosaic.Lib.Claim

@[expose] public section

set_option maxRecDepth 16384

noncomputable section

/-! The kernel's frame: what the body leaves in the three results' blocks at every grid point, and
    that every run of the program ends, with its arguments unchanged. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores of the quantised activations fill their block. -/
theorem cover8 (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : k0_cond1 i = 1#1) (y : S1536x1024.Idx) :
    ∃ pc ∈ (headFirst c i arg2 harg2 arg3 harg3 arg4 harg4 arg5 harg5 arg6 harg6 arg7 harg7 arg8 harg8 arg9 harg9 x2 x3 x5 x6 hc).2.1, y ∈ pc.1.set :=
  View.cover_of_tiledL (headFirst c i arg2 harg2 arg3 harg3 arg4 harg4 arg5 harg5 arg6 harg6 arg7 harg7 arg8 harg8 arg9 harg9 x2 x3 x5 x6 hc).2.1 ![256, 1024] (by sl_kernel_rfl) y

/-- The first point's stores of the row maxima fill their block. -/
theorem cover9 (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x5 : Vec F S8x512 .f32) (x6 : Vec F S1x512 .f32) (hc : k0_cond1 i = 1#1) (y : S6x256.Idx) :
    ∃ pc ∈ (headFirst c i arg2 harg2 arg3 harg3 arg4 harg4 arg5 harg5 arg6 harg6 arg7 harg7 arg8 harg8 arg9 harg9 x2 x3 x5 x6 hc).2.2.1, y ∈ pc.1.set :=
  View.cover_of_tiledL (headFirst c i arg2 harg2 arg3 harg3 arg4 harg4 arg5 harg5 arg6 harg6 arg7 harg7 arg8 harg8 arg9 harg9 x2 x3 x5 x6 hc).2.2.1 ![1, 256] (by sl_kernel_rfl) y

/-- The stores of the product fill its block (scales that fit). -/
theorem coverFast (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32) (x4 : Vec F S1024x512 .i8) (x8 : Vec F S1536x1024 .fp8e4m3) (hf : fitsBit v6 v37 cst_15 = 1#1) (y : S1536x512.Idx) :
    ∃ pc ∈ (restFast c i arg2 harg2 arg3 harg3 arg4 harg4 arg5 harg5 arg6 harg6 arg7 harg7 arg8 harg8 arg9 harg9 arg1 v0 v6 v8 v37 cst_15 x4 x8 hf).1, y ∈ pc.1.set :=
  View.cover_of_tiledL (restFast c i arg2 harg2 arg3 harg3 arg4 harg4 arg5 harg5 arg6 harg6 arg7 harg7 arg8 harg8 arg9 harg9 arg1 v0 v6 v8 v37 cst_15 x4 x8 hf).1 ![256, 512] (by sl_kernel_rfl) y

/-- One trip of the general branch's loop stores one piece: the product's rows of its tile. -/
theorem trip_eq (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v8 : FVec F S1x512 .f32) (v100 : FVec F S8x512 .bf16) (v115 : FVec F S128x512 .bf16) (v130 : FVec F S128x512 .bf16) (v145 : FVec F S128x512 .bf16) (v160 : FVec F S128x512 .bf16) (v175 : FVec F S128x512 .bf16) (v184 : IVec S128x512 8) (v191 : Vec F S128x512 .i8) (v206 : Vec F S128x512 .i8) (X : BufTy.Contents (Elt F) arg8.view.ty) (k : Fin k0_t1_loop.trips) :
    tripL_k0_t1 (F := F) Variants.none c none i arg2 harg2 arg3 harg3 arg4 harg4 arg5 harg5 arg6 harg6 arg7 harg7 arg8 harg8 arg9 harg9 arg1 v0 v8 v100 v115 v130 v145 v160 v175 v184 v191 v206 X k =
      [⟨Rect.unit (s := S1536x512) (k0_off2 k) S256x512.size (k0_off2_inb k), k0_pay3 arg1 v0 v8 v100 v115 v130 v145 v160 v175 v184 v191 v206
        (View.readAt (Elt F) arg8.view (Rect.unit (s := S1536x1024) (k0_off1 k) S256x1024.size (k0_off1_inb k)).toLoadRect X)⟩] := by
  unfold tripL_k0_t1 trip_k0_t1; rfl

/-- The rows a trip stores start at 256 times its number, -/
theorem off2_eq : ∀ k : Fin k0_t1_loop.trips, k0_off2 k = ![256 * k.val, 0] := by decide +kernel
/-- and so do the rows it reads. -/
theorem off1_eq : ∀ k : Fin k0_t1_loop.trips, k0_off1 k = ![256 * k.val, 0] := by decide +kernel
theorem trips_eq : k0_t1_loop.trips = 6 := by decide +kernel

/-- The trips before the `n`-th fill the first `256 n` rows. -/
theorem coverTrips (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v8 : FVec F S1x512 .f32) (v100 : FVec F S8x512 .bf16) (v115 : FVec F S128x512 .bf16) (v130 : FVec F S128x512 .bf16) (v145 : FVec F S128x512 .bf16) (v160 : FVec F S128x512 .bf16) (v175 : FVec F S128x512 .bf16) (v184 : IVec S128x512 8) (v191 : Vec F S128x512 .i8) (v206 : Vec F S128x512 .i8) (X : BufTy.Contents (Elt F) arg8.view.ty) (n : ℕ) (hn : n ≤ k0_t1_loop.trips) (y : S1536x512.Idx) (hy : (y 0).val < 256 * n) :
    ∃ pc ∈ pb_k0_t1 (F := F) Variants.none c none i arg2 harg2 arg3 harg3 arg4 harg4 arg5 harg5 arg6 harg6 arg7 harg7 arg8 harg8 arg9 harg9 arg1 v0 v8 v100 v115 v130 v145 v160 v175 v184 v191 v206 X n, y ∈ pc.1.set := by
  induction n with
  | zero => omega
  | succ n ih =>
    rw [pb_k0_t1_succ (F := F) Variants.none c none i arg2 harg2 arg3 harg3 arg4 harg4 arg5 harg5 arg6 harg6 arg7 harg7 arg8 harg8 arg9 harg9 arg1 v0 v8 v100 v115 v130 v145 v160 v175 v184 v191 v206 X ⟨n, hn⟩, trip_eq]
    by_cases h : (y 0).val < 256 * n
    · obtain ⟨pc, hm, hs⟩ := ih (by omega) h
      exact ⟨pc, List.mem_append_right _ hm, hs⟩
    · refine ⟨_, List.mem_append_left _ (List.mem_singleton_self _), ?_⟩
      rw [Rect.mem_set_unit]
      intro a
      have h1 : (y 1).val < 512 := (y 1).isLt
      rw [off2_eq]
      match a with
      | ⟨0, _⟩ => exact ⟨by show 256 * n ≤ (y 0).val; omega, by show (y 0).val < 256 * n + 256; omega⟩
      | ⟨1, _⟩ => exact ⟨by show 0 ≤ (y 1).val; omega, by show (y 1).val < 0 + 512; omega⟩

/-- The stores of the product fill its block (general scales). -/
theorem coverGeneral (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt F .f32) (v6 : Vec F S8x512 .f32) (v8 : FVec F S1x512 .f32) (v37 : IVec S8x512 1) (cst_15 : F .f32) (x4 : Vec F S1024x512 .i8) (x8 : Vec F S1536x1024 .fp8e4m3) (hf : ¬ fitsBit v6 v37 cst_15 = 1#1) (y : S1536x512.Idx) :
    ∃ pc ∈ (restGeneral c i arg2 harg2 arg3 harg3 arg4 harg4 arg5 harg5 arg6 harg6 arg7 harg7 arg8 harg8 arg9 harg9 arg1 v0 v6 v8 v37 cst_15 x4 x8 hf).1, y ∈ pc.1.set :=
  by unfold restGeneral; exact coverTrips (n := 6) (hn := by rw [trips_eq]) (y := y) (hy := (y 0).isLt) ..

/-- The product block the body leaves, from the scales `r` it read, the packed weights and the quantised activations. -/
def yOf (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (r : Res F) (x4 : Vec F S1024x512 .i8) (x8 : Vec F S1536x1024 .fp8e4m3) : Vec F S1536x512 .bf16 :=
  if hf : fitsBit r.2.2.1 r.2.2.2.2.1 r.2.2.2.2.2 = 1#1 then View.canon (restFast c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).1
  else View.canon (restGeneral c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).1

/-- After its scales are read, the body leaves `yOf` in the product's block and changes nothing else. -/
theorem rest_sound (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (r : Res F) (x4 : Vec F S1024x512 .i8) (x8 : Vec F S1536x1024 .fp8e4m3) (E : Set ℕ) (K : PUnit → sProp 𝕄) :
    iprop(owns (c : Thread nD τ) arg4 fullShare x4 ∗ owns (c : Thread nD τ) arg8 fullShare x8 ∗ (∃ d, owns (c : Thread nD τ) arg7 fullShare d)
        ∗ (iprop(owns (c : Thread nD τ) arg4 fullShare x4 ∗ owns (c : Thread nD τ) arg8 fullShare x8 ∗ owns (c : Thread nD τ) arg7 fullShare (yOf c i arg2 harg2 arg3 harg3 arg4 harg4 arg5 harg5 arg6 harg6 arg7 harg7 arg8 harg8 arg9 harg9 r x4 x8)) -∗ K ⟨⟩))
      ⊢ wp frame (wpE (defs₀ (F := F)) Variants.none c none) E (rest i arg2 harg2 arg3 harg3 arg4 harg4 arg5 harg5 arg6 harg6 arg7 harg7 arg8 harg8 arg9 harg9 r.1 r.2.1 r.2.2.1 r.2.2.2.1 r.2.2.2.2.1 r.2.2.2.2.2) K := by
  unfold yOf
  by_cases hf : fitsBit r.2.2.1 r.2.2.2.2.1 r.2.2.2.2.2 = 1#1
  · rw [dif_pos hf]
    iintro ⟨H4, H8, H7, Hk⟩
    iapply (restFast c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).2 E K
    isplitl [H4]; · iexact H4
    isplitl [H8]; · iexact H8
    isplitl [H7]; · iexact H7
    iintro ⟨H4, H8, ⟨%e7, H7⟩⟩
    iapply Hk
    isplitl [H4]; · iexact H4
    isplitl [H8]; · iexact H8
    unfold owns; iexists _; isplitr
    swap; · iexact H7
    ipureintro; exact View.read_writes_eq_canon _ _ _ (coverFast c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf)
  · rw [dif_neg hf]
    iintro ⟨H4, H8, H7, Hk⟩
    iapply (restGeneral c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf).2 E K
    isplitl [H4]; · iexact H4
    isplitl [H8]; · iexact H8
    isplitl [H7]; · iexact H7
    iintro ⟨H4, H8, ⟨%e7, H7⟩⟩
    iapply Hk
    isplitl [H4]; · iexact H4
    isplitl [H8]; · iexact H8
    unfold owns; iexists _; isplitr
    swap; · iexact H7
    ipureintro; exact View.read_writes_eq_canon _ _ _ (coverGeneral c i arg2 harg2 arg3 harg3 arg4 harg4 arg5 harg5 arg6 harg6 arg7 harg7 arg8 harg8 arg9 harg9 r.1 r.2.1 r.2.2.1 r.2.2.2.1 r.2.2.2.2.1 r.2.2.2.2.2 x4 x8 hf)

set_option maxRecDepth 65536 in
/-- The whole body on the first grid point. -/
theorem body_first (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x4 : Vec F S1024x512 .i8) (x5 : Vec F S8x512 .f32) (x6 : Vec F S1x512 .f32) (hc : k0_cond1 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (yOf c i arg2 harg2 arg3 harg3 arg4 harg4 arg5 harg5 arg6 harg6 arg7 harg7 arg8 harg8 arg9 harg9 (headFirst c i arg2 harg2 arg3 harg3 arg4 harg4 arg5 harg5 arg6 harg6 arg7 harg7 arg8 harg8 arg9 harg9 x2 x3 x5 x6 hc).1 x4 (View.canon (headFirst c i arg2 harg2 arg3 harg3 arg4 harg4 arg5 harg5 arg6 harg6 arg7 harg7 arg8 harg8 arg9 harg9 x2 x3 x5 x6 hc).2.1)) ∗ owns (c : Thread nD τ) arg8 fullShare (View.canon (headFirst c i arg2 harg2 arg3 harg3 arg4 harg4 arg5 harg5 arg6 harg6 arg7 harg7 arg8 harg8 arg9 harg9 x2 x3 x5 x6 hc).2.1) ∗ owns (c : Thread nD τ) arg9 fullShare (View.canon (headFirst c i arg2 harg2 arg3 harg3 arg4 harg4 arg5 harg5 arg6 harg6 arg7 harg7 arg8 harg8 arg9 harg9 x2 x3 x5 x6 hc).2.2.1)) -∗ K ⟨⟩))
      ⊢ wp frame (wpE (defs₀ (F := F)) Variants.none c none) E (cc0_w4a8_linear i arg2 harg2 arg3 harg3 arg4 harg4 arg5 harg5 arg6 harg6 arg7 harg7 arg8 harg8 arg9 harg9) K := by
  refine triple_restated (Q' := K) ?_ (congrArg (wp frame (wpE (defs₀ (F := F)) Variants.none c none) E) (body_eq i arg2 harg2 arg3 harg3 arg4 harg4 arg5 harg5 arg6 harg6 arg7 harg7 arg8 harg8 arg9 harg9).symm) .rfl fun _ => .rfl
  rw [wp_bind]
  iintro ⟨H2, H3, H4, H5, H6, H7, H8, H9, Hk⟩
  iapply (headFirst c i arg2 harg2 arg3 harg3 arg4 harg4 arg5 harg5 arg6 harg6 arg7 harg7 arg8 harg8 arg9 harg9 x2 x3 x5 x6 hc).2.2.2 E _
  isplitl [H2]; · iexact H2
  isplitl [H3]; · iexact H3
  isplitl [H5]; · iexact H5
  isplitl [H6]; · iexact H6
  isplitl [H8]; · iexact H8
  isplitl [H9]; · iexact H9
  iintro ⟨H2, H3, H5, H6, ⟨%e8, H8⟩, ⟨%e9, H9⟩⟩
  iapply rest_sound c i arg2 harg2 arg3 harg3 arg4 harg4 arg5 harg5 arg6 harg6 arg7 harg7 arg8 harg8 arg9 harg9 (headFirst c i arg2 harg2 arg3 harg3 arg4 harg4 arg5 harg5 arg6 harg6 arg7 harg7 arg8 harg8 arg9 harg9 x2 x3 x5 x6 hc).1 x4 (View.canon (headFirst c i arg2 harg2 arg3 harg3 arg4 harg4 arg5 harg5 arg6 harg6 arg7 harg7 arg8 harg8 arg9 harg9 x2 x3 x5 x6 hc).2.1) E K
  isplitl [H4]; · iexact H4
  isplitl [H8]
  · unfold owns; iexists _; isplitr
    swap; · iexact H8
    ipureintro; exact View.read_writes_eq_canon _ _ _ (cover8 c i arg2 harg2 arg3 harg3 arg4 harg4 arg5 harg5 arg6 harg6 arg7 harg7 arg8 harg8 arg9 harg9 x2 x3 x5 x6 hc)
  isplitl [H7]; · iexact H7
  iintro ⟨H4, H8, H7⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_eq_canon _ _ _ (cover9 c i arg2 harg2 arg3 harg3 arg4 harg4 arg5 harg5 arg6 harg6 arg7 harg7 arg8 harg8 arg9 harg9 x2 x3 x5 x6 hc)

set_option maxRecDepth 65536 in
/-- The whole body on a later grid point. -/
theorem body_later (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (x2 : Vec F S1 .f32) (x3 : Vec F S1536x1024 .bf16) (x4 : Vec F S1024x512 .i8) (x5 : Vec F S8x512 .f32) (x6 : Vec F S1x512 .f32) (x8 : Vec F S1536x1024 .fp8e4m3) (hc : ¬ k0_cond1 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (yOf c i arg2 harg2 arg3 harg3 arg4 harg4 arg5 harg5 arg6 harg6 arg7 harg7 arg8 harg8 arg9 harg9 (headLater c i arg2 harg2 arg3 harg3 arg4 harg4 arg5 harg5 arg6 harg6 arg7 harg7 arg8 harg8 arg9 harg9 x2 x3 x5 x6 hc).1 x4 x8) ∗ owns (c : Thread nD τ) arg8 fullShare x8) -∗ K ⟨⟩))
      ⊢ wp frame (wpE (defs₀ (F := F)) Variants.none c none) E (cc0_w4a8_linear i arg2 harg2 arg3 harg3 arg4 harg4 arg5 harg5 arg6 harg6 arg7 harg7 arg8 harg8 arg9 harg9) K := by
  refine triple_restated (Q' := K) ?_ (congrArg (wp frame (wpE (defs₀ (F := F)) Variants.none c none) E) (body_eq i arg2 harg2 arg3 harg3 arg4 harg4 arg5 harg5 arg6 harg6 arg7 harg7 arg8 harg8 arg9 harg9).symm) .rfl fun _ => .rfl
  rw [wp_bind]
  iintro ⟨H2, H3, H4, H5, H6, H7, H8, Hk⟩
  iapply (headLater c i arg2 harg2 arg3 harg3 arg4 harg4 arg5 harg5 arg6 harg6 arg7 harg7 arg8 harg8 arg9 harg9 x2 x3 x5 x6 hc).2 E _
  isplitl [H2]; · iexact H2
  isplitl [H3]; · iexact H3
  isplitl [H5]; · iexact H5
  isplitl [H6]; · iexact H6
  iintro ⟨H2, H3, H5, H6⟩
  iapply rest_sound c i arg2 harg2 arg3 harg3 arg4 harg4 arg5 harg5 arg6 harg6 arg7 harg7 arg8 harg8 arg9 harg9 (headLater c i arg2 harg2 arg3 harg3 arg4 harg4 arg5 harg5 arg6 harg6 arg7 harg7 arg8 harg8 arg9 harg9 x2 x3 x5 x6 hc).1 x4 x8 E K
  isplitl [H4]; · iexact H4
  isplitl [H8]; · iexact H8
  isplitl [H7]; · iexact H7
  iintro ⟨H4, H8, H7⟩
  iapply Hk
  isplitl [H2]; · iexact H2
  isplitl [H3]; · iexact H3
  isplitl [H4]; · iexact H4
  isplitl [H5]; · iexact H5
  isplitl [H6]; · iexact H6
  isplitl [H7]; · iexact H7
  iexact H8

variable (m : (ℓ : Loc nD τ sig) → Buf (Elt F) ℓ) (ρ : Dev nD → PrngReg)

/-! Each window's staging memref at a point, as the pipeline passes it, and that it is whole. -/

abbrev ms0 (t : Fin cfg0.N) : Memref sig .tc .smem S1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1536x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1536x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1536x1024 .fp8e4m3 := win0_6.stage (cfg0.slots t 6)
abbrev hs6 (t : Fin cfg0.N) : (ms6 t).IsWhole := hstage0_6 ((cfg0.slots t 6).cast nbuf0_6)
abbrev ms7 (t : Fin cfg0.N) : Memref sig .tc .vmem S6x256 .f32 := win0_7.stage (cfg0.slots t 7)
abbrev hs7 (t : Fin cfg0.N) : (ms7 t).IsWhole := hstage0_7 ((cfg0.slots t 7).cast nbuf0_7)

/-- The first grid point, -/
def t0 : Fin cfg0.N := ⟨0, by decide⟩

/-- the only one whose coordinates are both zero. -/
theorem first_iff : ∀ t : Fin cfg0.N, k0_cond1 (grid0.coords t) = 1#1 ↔ t = t0 := by decide +kernel

theorem first_t0 : k0_cond1 (grid0.coords t0) = 1#1 := (first_iff t0).mpr rfl

/-- What the first point leaves: the scales it read and the pieces of the quantised activations and of the row maxima. -/
abbrev hd0 (c : Dev nD) := headFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (iblk m c 0 t0) (iblk m c 1 t0) (iblk m c 3 t0) (iblk m c 4 t0) first_t0

/-- The quantised activations, which the first point stores and every later point keeps. -/
def xcAll (c : Dev nD) : Vec F S1536x1024 .fp8e4m3 := View.canon (hd0 m c).2.1
/-- The row maxima, which the first point stores and every later point keeps. -/
def amaxAll (c : Dev nD) : Vec F S6x256 .f32 := View.canon (hd0 m c).2.2.1

/-- The scales the body reads at a point. -/
def resAt (c : Dev nD) (t : Fin cfg0.N) : Res F :=
  if hc : k0_cond1 (grid0.coords t) = 1#1 then (headFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 3 t) (iblk m c 4 t) hc).1
  else (headLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 3 t) (iblk m c 4 t) hc).1

/-- The product block the body leaves at a point. -/
def yAt (c : Dev nD) (t : Fin cfg0.N) : Vec F S1536x512 .bf16 :=
  yOf c (grid0.coords t) (ms0 t) (hs0 t) (ms1 t) (hs1 t) (ms2 t) (hs2 t) (ms3 t) (hs3 t) (ms4 t) (hs4 t) (ms5 t) (hs5 t) (ms6 t) (hs6 t) (ms7 t) (hs7 t) (resAt m c t) (iblk m c 2 t) (xcAll m c)

/-- The pipeline's proof data: after every point an input's block is as fetched, the product's block is `yAt`,
    and the other two results' blocks are those the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => xcAll m c
    | ⟨7, _⟩ => amaxAll m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = yAt m c t := by dsimp only [dats]
theorem after6 (c : Dev nD) (t : Fin cfg0.N) : (dats m 0 c).after 6 t = xcAll m c := by dsimp only [dats]
theorem after7 (c : Dev nD) (t : Fin cfg0.N) : (dats m 0 c).after 7 t = amaxAll m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- Result 2's block is touched only on the first point. -/
theorem idle6 (t : Fin cfg0.N) : cfg0.idle 6 (grid0.coords t) = !(k0_cond1 (grid0.coords t) == 1#1) := rfl

/-- Result 2's block is written back at the last point only. -/
theorem noflush6 (t : Fin cfg0.N) (h : t.val ≠ 21) : (cfg0.win 6).flush t = false := by
  have hN : t.val < 22 := Nat.lt_of_lt_of_le t.isLt (by decide)
  rw [Bool.eq_false_iff]; intro hfl
  have := (flush0_6 t).mp hfl
  omega

/-- What the first point leaves of result 2 is all of its block. -/
theorem kept6 (c : Dev nD) (t : Fin cfg0.N) (d) : (dats m 0 c).kept 6 t d = xcAll m c := by
  unfold Dat.kept
  rw [after6, Pipeline.fill_of_clip_none 6 _ (fun _ => rfl) d (xcAll m c), Window.fill_cut]

/-- Past the first point, result 2's block holds what the first point stored. -/
theorem before6 (c : Dev nD) (n : ℕ) : ∀ (hn : n + 1 < cfg0.N) (d), (dats m 0 c).before 6 ⟨n + 1, hn⟩ d = xcAll m c := by
  induction n with
  | zero =>
    intro hn d
    rw [(dats m 0 c).before_of_pos 6 _ (Nat.succ_ne_zero 0) ((cfg0.win 6).fetch_out rfl _), noflush6 _ (by simp), if_neg Bool.false_ne_true]
    unfold Dat.left
    rw [show cfg0.idle 6 (cfg0.grid.coords ⟨0 + 1 - 1, _⟩) = false from by rw [show (⟨0 + 1 - 1, Nat.lt_of_le_of_lt (Nat.sub_le _ _) hn⟩ : Fin cfg0.N) = t0 from rfl]; decide +kernel]
    exact kept6 m c _ d
  | succ n ih =>
    intro hn d
    have hN : n + 1 + 1 < 22 := Nat.lt_of_lt_of_le hn (by decide)
    rw [(dats m 0 c).before_of_pos 6 _ (Nat.succ_ne_zero _) ((cfg0.win 6).fetch_out rfl _), noflush6 _ (by simp; omega), if_neg Bool.false_ne_true]
    unfold Dat.left
    rw [show cfg0.idle 6 (cfg0.grid.coords ⟨n + 1 + 1 - 1, _⟩) = true from by
      show cfg0.idle 6 (grid0.coords ⟨n + 1 + 1 - 1, Nat.lt_of_le_of_lt (Nat.sub_le _ _) hn⟩) = true
      rw [idle6, beq_eq_false_iff_ne.mpr (fun h => absurd ((first_iff _).mp h) (fun e => absurd (congrArg Fin.val e) (Nat.succ_ne_zero n)))]; rfl]
    exact ih _ d

theorem before6' (c : Dev nD) (t : Fin cfg0.N) (ht : ¬ t = t0) (d) : (dats m 0 c).before 6 t d = xcAll m c := by
  obtain ⟨n, hn⟩ := t
  cases n with
  | zero => exact absurd rfl ht
  | succ n => exact before6 m c n hn d

/-- What the obligation asks of result 2's buffer after a point: what the first point stored. -/
theorem leave6 (c : Dev nD) (t : Fin cfg0.N) :
    owns (c : Thread nD τ) (ms6 t) fullShare ((dats m 0 c).after 6 t) ⊢
      (match cfg0.idle 6 (cfg0.grid.coords t) with
        | true => match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄) := by
  cases hi : cfg0.idle 6 (cfg0.grid.coords t) with
  | false => exact .rfl
  | true =>
    cases (cfg0.win 6).flush t with
    | true => exact .rfl
    | false =>
      have ht : ¬ t = t0 := by
        intro h; subst h
        exact absurd hi (by decide +kernel)
      dsimp only
      rw [after6]
      iintro H
      iexists (xcAll m c)
      rw [before6' m c t ht]
      iexact H
/-- Result 3's block is touched only on the first point. -/
theorem idle7 (t : Fin cfg0.N) : cfg0.idle 7 (grid0.coords t) = !(k0_cond1 (grid0.coords t) == 1#1) := rfl

/-- Result 3's block is written back at the last point only. -/
theorem noflush7 (t : Fin cfg0.N) (h : t.val ≠ 21) : (cfg0.win 7).flush t = false := by
  have hN : t.val < 22 := Nat.lt_of_lt_of_le t.isLt (by decide)
  rw [Bool.eq_false_iff]; intro hfl
  have := (flush0_7 t).mp hfl
  omega

/-- What the first point leaves of result 3 is all of its block. -/
theorem kept7 (c : Dev nD) (t : Fin cfg0.N) (d) : (dats m 0 c).kept 7 t d = amaxAll m c := by
  unfold Dat.kept
  rw [after7, Pipeline.fill_of_clip_none 7 _ (fun _ => rfl) d (amaxAll m c), Window.fill_cut]

/-- Past the first point, result 3's block holds what the first point stored. -/
theorem before7 (c : Dev nD) (n : ℕ) : ∀ (hn : n + 1 < cfg0.N) (d), (dats m 0 c).before 7 ⟨n + 1, hn⟩ d = amaxAll m c := by
  induction n with
  | zero =>
    intro hn d
    rw [(dats m 0 c).before_of_pos 7 _ (Nat.succ_ne_zero 0) ((cfg0.win 7).fetch_out rfl _), noflush7 _ (by simp), if_neg Bool.false_ne_true]
    unfold Dat.left
    rw [show cfg0.idle 7 (cfg0.grid.coords ⟨0 + 1 - 1, _⟩) = false from by rw [show (⟨0 + 1 - 1, Nat.lt_of_le_of_lt (Nat.sub_le _ _) hn⟩ : Fin cfg0.N) = t0 from rfl]; decide +kernel]
    exact kept7 m c _ d
  | succ n ih =>
    intro hn d
    have hN : n + 1 + 1 < 22 := Nat.lt_of_lt_of_le hn (by decide)
    rw [(dats m 0 c).before_of_pos 7 _ (Nat.succ_ne_zero _) ((cfg0.win 7).fetch_out rfl _), noflush7 _ (by simp; omega), if_neg Bool.false_ne_true]
    unfold Dat.left
    rw [show cfg0.idle 7 (cfg0.grid.coords ⟨n + 1 + 1 - 1, _⟩) = true from by
      show cfg0.idle 7 (grid0.coords ⟨n + 1 + 1 - 1, Nat.lt_of_le_of_lt (Nat.sub_le _ _) hn⟩) = true
      rw [idle7, beq_eq_false_iff_ne.mpr (fun h => absurd ((first_iff _).mp h) (fun e => absurd (congrArg Fin.val e) (Nat.succ_ne_zero n)))]; rfl]
    exact ih _ d

theorem before7' (c : Dev nD) (t : Fin cfg0.N) (ht : ¬ t = t0) (d) : (dats m 0 c).before 7 t d = amaxAll m c := by
  obtain ⟨n, hn⟩ := t
  cases n with
  | zero => exact absurd rfl ht
  | succ n => exact before7 m c n hn d

/-- What the obligation asks of result 3's buffer after a point: what the first point stored. -/
theorem leave7 (c : Dev nD) (t : Fin cfg0.N) :
    owns (c : Thread nD τ) (ms7 t) fullShare ((dats m 0 c).after 7 t) ⊢
      (match cfg0.idle 7 (cfg0.grid.coords t) with
        | true => match (cfg0.win 7).flush t with
          | false => iprop(∃ d, owns (c : Thread nD τ) ((cfg0.win 7).stage (cfg0.slots t 7)) fullShare ((dats m 0 c).before 7 t d))
          | true => owns (c : Thread nD τ) ((cfg0.win 7).stage (cfg0.slots t 7)) fullShare ((dats m 0 c).after 7 t)
        | false => owns (c : Thread nD τ) ((cfg0.win 7).stage (cfg0.slots t 7)) fullShare ((dats m 0 c).after 7 t) : sProp 𝕄) := by
  cases hi : cfg0.idle 7 (cfg0.grid.coords t) with
  | false => exact .rfl
  | true =>
    cases (cfg0.win 7).flush t with
    | true => exact .rfl
    | false =>
      have ht : ¬ t = t0 := by
        intro h; subst h
        exact absurd hi (by decide +kernel)
      dsimp only
      rw [after7]
      iintro H
      iexists (amaxAll m c)
      rw [before7' m c t ht]
      iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 800000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases hc : k0_cond1 (grid0.coords t) = 1#1
  · unfold yAt resAt; rw [dif_pos hc]
    obtain rfl := (first_iff t).mp hc
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (iblk m c 0 t0) (iblk m c 1 t0) (iblk m c 2 t0) (iblk m c 3 t0) (iblk m c 4 t0) hc Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · unfold yAt resAt; rw [dif_neg hc]
    have ht : ¬ t = t0 := fun h => hc ((first_iff t).mpr h)
    simp only [before6' m c t ht, before7' m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (xcAll m c) hc Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leave6 m c t); iexact H6
  iapply (leave7 m c t); iexact H7

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, the arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Idealize.ShloMosaic.θ_run_and (unchanged m ρ) ((θ_run defs _ _).mono (fun _ h => h.2) (run_main_quiescent m ρ))

end Cert.KernelIdeal.Run

end
-- ==== Proof.Nibble.lean ====
module

public import proofs.«01_k».proof.Proof.Gen.KernelIdeal.Skeleton
public import Idealize.ShloMosaic.Lib.Pointwise
public import Idealize.ShloMosaic.Lib.BitcastFour
public import Idealize.ShloMosaic.Lib.IdealHost

@[expose] public section

set_option maxRecDepth 16384

noncomputable section

/-! The packed weights: a byte holds two signed four-bit codes, the low one for the output's first half, the high one for
    its second. The kernel keeps the code in the byte's high half, so what it reads is sixteen times the code. -/

namespace Cert.Nibble

open Cert.KernelIdeal Cert.KernelIdeal.Gen
open Idealize.ShloMosaic

/-- The byte with the chosen code in its high half and zeros in its low half: the low code when `lo`. -/
def high (lo : Bool) (b : BitVec 8) : BitVec 8 := (if lo then b <<< 4 else b) &&& 0xF0#8

/-- The chosen code, as a signed number. -/
def code (lo : Bool) (b : BitVec 8) : ℤ :=
  let v : ℤ := if lo then (b.toNat % 16 : ℕ) else (b.toNat / 16 : ℕ)
  if 8 ≤ v then v - 16 else v

/-- The byte with the code in its high half, read as a signed number, is sixteen times the code. -/
theorem high_toInt : ∀ (lo : Bool) (b : BitVec 8), (high lo b).toInt = 16 * code lo b := by decide +kernel

/-- What the kernel does to a tile of packed bytes: as words, shifted when `sh`, masked, as bytes again. -/
def unpackWords (sh : BitVec 1) (x : IVec S128x512 8) : IVec S128x512 8 :=
  bitcast S128x512 8 (andi (Scalar.select sh (shli (bitcast S32x512 32 x bitcasts_S128x512_w8_S32x512_w32) (broadcast S32x512 4#32))
    (bitcast S32x512 32 x bitcasts_S128x512_w8_S32x512_w32)) (broadcast S32x512 4042322160#32)) bitcasts_S32x512_w32_S128x512_w8

/-- The mask's bits: the high half of each byte. -/
theorem mask_bit : ∀ q : Fin 32, (4042322160#32 : BitVec 32).getLsbD q = decide (4 ≤ q.val % 8) := by decide

theorem mask8_bit : ∀ q : Fin 8, (0xF0#8 : BitVec 8).getLsbD q = decide (4 ≤ q.val) := by decide

/-- Each byte by itself: the tile unpacked through words is the tile with every byte's code in its high half. -/
theorem unpackWords_apply (lo : Bool) (x : IVec S128x512 8) (p : Fin 128) (l : Fin 512) :
    unpackWords (BitVec.ofBool lo) x (ValueIdx.ix2 p l) = high lo (x (ValueIdx.ix2 p l)) := by
  apply BitVec.eq_of_getLsbD_eq
  intro q hq
  unfold unpackWords
  rw [bitcast_getLsbD _ _ _ q hq (by decide)]
  have hrow : S128x512.row (ValueIdx.ix2 p l) = p.val := rfl
  have hsrc : ∀ hh, (Shape.Bitcasts.srcIdx bitcasts_S32x512_w32_S128x512_w8 (ValueIdx.ix2 p l : S128x512.Idx) ((S128x512.row (ValueIdx.ix2 p l) * 8 + q) / 32) hh)
      = (ValueIdx.ix2 (⟨p.val / 4, by omega⟩ : Fin 32) l : S32x512.Idx) := by
    intro hh
    funext c
    match c with
    | ⟨0, _⟩ => exact Fin.ext ((Shape.Bitcasts.srcIdx_row _ _ _ _ ⟨0, Nat.zero_lt_two⟩ rfl).trans (by show (p.val * 8 + q) / 32 = p.val / 4; omega))
    | ⟨1, _⟩ => exact Fin.ext (Shape.Bitcasts.srcIdx_other _ _ _ _ ⟨1, Nat.one_lt_two⟩ (by show ¬ 1 + 2 = 2; omega))
  rw [hsrc, hrow]
  have h8 : (p.val * 8 + q) % 32 = (p.val % 4) * 8 + q := by omega
  rw [h8]
  have word : ∀ n : ℕ, n < 32 → n / 8 = p.val % 4 →
      (bitcast S32x512 32 x bitcasts_S128x512_w8_S32x512_w32 (ValueIdx.ix2 (⟨p.val / 4, by omega⟩ : Fin 32) l)).getLsbD n
        = (x (ValueIdx.ix2 p l)).getLsbD (n % 8) := fun n hn hd =>
    bitcast_8_32_getLsbD_ix2 x _ _ l n hn p (by show p.val = 4 * (p.val / 4) + n / 8; omega)
  have hm : (4042322160#32 : BitVec 32).getLsbD ((p.val % 4) * 8 + q) = decide (4 ≤ q) := by
    rw [mask_bit ⟨(p.val % 4) * 8 + q, by omega⟩]
    congr 1
    show (4 ≤ ((p.val % 4) * 8 + q) % 8) = (4 ≤ q)
    rw [show ((p.val % 4) * 8 + q) % 8 = q by omega]
  have hm8 : (0xF0#8 : BitVec 8).getLsbD q = decide (4 ≤ q) := mask8_bit ⟨q, hq⟩
  unfold high
  cases lo
  · have hs : ∀ A B : IVec S32x512 32, Scalar.select (BitVec.ofBool false) A B = B := fun A B => rfl
    rw [hs]
    show (_ &&& _ : BitVec 32).getLsbD _ = _
    rw [BitVec.getLsbD_and, BitVec.getLsbD_and, word _ (by omega) (by omega)]
    show (_ && (4042322160#32 : BitVec 32).getLsbD _) = _
    rw [hm, hm8, show ((p.val % 4) * 8 + q) % 8 = q by omega]
    simp
  · have hs : ∀ A B : IVec S32x512 32, Scalar.select (BitVec.ofBool true) A B = A := fun A B => rfl
    have hl : ∀ (A : IVec S32x512 32) (i : S32x512.Idx), shli A (broadcast S32x512 4#32) i = A i <<< (4 : ℕ) := fun A i => rfl
    rw [hs]
    show (_ &&& _ : BitVec 32).getLsbD _ = _
    rw [BitVec.getLsbD_and, BitVec.getLsbD_and, hl]
    show (_ && (4042322160#32 : BitVec 32).getLsbD _) = _
    rw [hm, hm8]
    by_cases h4 : 4 ≤ q
    · rw [BitVec.getLsbD_shiftLeft, word _ (by omega) (by omega)]
      simp only [if_true, BitVec.getLsbD_shiftLeft]
      rw [show ((p.val % 4) * 8 + q - 4) % 8 = q - 4 by omega]
      simp [h4, hq, show p.val % 4 * 8 + q < 32 by omega, show ¬ (p.val % 4 * 8 + q < 4) by omega]
    · simp [h4]

/-- Sixteen times the code times a sixteenth of the scale is the code times the scale, -/
theorem high_mul_sixteenth (lo : Bool) (b : BitVec 8) (g : EReal) :
    ((((high lo b).toInt : ℝ) : EReal)) * (g * Ideal.ofBits .f32 0x3D800000#32) = (((code lo b : ℤ) : ℝ) : EReal) * g := by
  have h16 : Ideal.ofBits .f32 0x3D800000#32 = (((1 : ℝ) / 16 : ℝ) : EReal) := by
    simp [Ideal.ofBits, Ideal.ieee, -EReal.coe_mul]; norm_num
  rw [high_toInt, h16, mul_comm g, ← mul_assoc, ← EReal.coe_mul]
  congr 2
  push_cast; ring

/-- and so is a sixteenth of sixteen times the code, times the scale. -/
theorem high_sixteenth_mul (lo : Bool) (b : BitVec 8) (g : EReal) :
    ((((high lo b).toInt : ℝ) : EReal)) * Ideal.ofBits .bf16 0x3D80#16 * g = (((code lo b : ℤ) : ℝ) : EReal) * g := by
  rw [high_toInt, Ideal.ofBits_sixteenth_bf16, ← EReal.coe_mul]
  congr 2
  push_cast; ring

/-- The bit that chooses the low code: the output's half is the first. -/
theorem cmpi_zero (a : BitVec 32) : (Scalar.cmpi .eq a 0#32 : BitVec 1) = BitVec.ofBool (a == 0#32) := rfl

/-- The chosen code of a tile, at an index in the kernel's spelling. -/
theorem unpack_apply (a : BitVec 32) (x : IVec S128x512 8) (j : S128x512.Idx) :
    unpackWords (Scalar.cmpi .eq a 0#32) x j = high (a == 0#32) (x j) := by
  rw [cmpi_zero, ValueIdx.eq_ix2 j]; exact unpackWords_apply _ x _ _

end Cert.Nibble

end
-- ==== Proof.Weights.lean ====
module

public import proofs.«01_k».proof.Proof.Nibble
public import proofs.«01_k».proof.Proof.FrameIdeal
public import Idealize.ShloMosaic.Lib.Pipeline.ValueKit

@[expose] public section

set_option maxRecDepth 16384

noncomputable section

/-! The weights of one block of columns, as each of the kernel's two branches dequantises them. -/

namespace Cert.KernelIdeal.Val

open Cert.KernelIdeal Cert.KernelIdeal.Gen Cert.KernelIdeal.Run Cert.Nibble
open Idealize.ShloMosaic Idealize.ShloMosaic.TcCoe

/-- A weight: the code of a packed byte times its group's scale. -/
def weight (lo : Bool) (w : IVec S1024x512 8) (g : FVec Ideal S8x512 .f32) (k : Fin 1024) (n : Fin 512) : EReal :=
  (((code lo (w (ix2 k n)) : ℤ) : ℝ) : EReal) * g (ix2 ⟨k.val / 128, by omega⟩ n)

/-- `unpack_apply` with the kernel's operations spelt out. -/
theorem unpack_lit (a : BitVec 32) (x : IVec S128x512 8) (j : S128x512.Idx) :
    bitcast S128x512 8 (andi (Scalar.select (Scalar.cmpi .eq a 0#32) (shli (bitcast S32x512 32 x bitcasts_S128x512_w8_S32x512_w32) (broadcast S32x512 4#32))
      (bitcast S32x512 32 x bitcasts_S128x512_w8_S32x512_w32)) (broadcast S32x512 4042322160#32)) bitcasts_S32x512_w32_S128x512_w8 j
      = high (a == 0#32) (x j) := unpack_apply a x j

/-- A byte as a number. -/
theorem sitofp_real (b : BitVec 8) : FloatOps.sitofp (F := Ideal) FTy.bf16 b = ((b.toInt : ℝ) : EReal) := rfl

/-- Eight tiles stacked are a matrix as soon as each tile is the matrix's rows of its group. -/
theorem concat8 (x0 x1 x2 x3 x4 x5 x6 x7 : S128x512.Idx → EReal) (W : Fin 1024 → Fin 512 → EReal)
    (h : Shape.Concatenates [S128x512, S128x512, S128x512, S128x512, S128x512, S128x512, S128x512, S128x512] S1024x512 0)
    (h0 : ∀ (p : Fin 128) n, x0 (ix2 p n) = W ⟨p.val, by omega⟩ n) (h1 : ∀ (p : Fin 128) n, x1 (ix2 p n) = W ⟨128 + p.val, by omega⟩ n)
    (h2 : ∀ (p : Fin 128) n, x2 (ix2 p n) = W ⟨256 + p.val, by omega⟩ n) (h3 : ∀ (p : Fin 128) n, x3 (ix2 p n) = W ⟨384 + p.val, by omega⟩ n)
    (h4 : ∀ (p : Fin 128) n, x4 (ix2 p n) = W ⟨512 + p.val, by omega⟩ n) (h5 : ∀ (p : Fin 128) n, x5 (ix2 p n) = W ⟨640 + p.val, by omega⟩ n)
    (h6 : ∀ (p : Fin 128) n, x6 (ix2 p n) = W ⟨768 + p.val, by omega⟩ n) (h7 : ∀ (p : Fin 128) n, x7 (ix2 p n) = W ⟨896 + p.val, by omega⟩ n)
    (k : Fin 1024) (n : Fin 512) :
    concatenate S1024x512 0 [⟨S128x512, x0⟩, ⟨S128x512, x1⟩, ⟨S128x512, x2⟩, ⟨S128x512, x3⟩, ⟨S128x512, x4⟩, ⟨S128x512, x5⟩, ⟨S128x512, x6⟩, ⟨S128x512, x7⟩] h (ix2 k n) = W k n := by
  pointwise
  split_ifs
  all_goals simp only [h0, h1, h2, h3, h4, h5, h6, h7]
  all_goals (congr 1; apply Fin.ext; simp only []; omega)

/-- The branch for scales that fit: its stacked weights are the codes times the scales. -/
theorem wFast (c : Dev nD) (arg4 : Memref sig .tc .vmem S1024x512 .i8) (harg4 : arg4.IsWhole) (a : BitVec 32) (g : FVec Ideal S8x512 .f32)
    (w : IVec S1024x512 8) (k : Fin 1024) (n : Fin 512) :
    restFast.sl.r_7 (F := Ideal) c arg4 harg4 a g w (ix2 k n) = weight (a == 0#32) w g k n := by
  unfold restFast.sl.r_7 restFast.sl.r restFast.sl.r_1 restFast.sl.r_3 restFast.sl.r_4 restFast.sl.r_5 restFast.sl.r_6 restFast.sl.r_2 k0_pay35
  simp only [View.readAt_eq_ld, Memref.IsWhole.read_unread]
  refine concat8 _ _ _ _ _ _ _ _ (weight (a == 0#32) w g) _ ?_ ?_ ?_ ?_ ?_ ?_ ?_ ?_ k n
  all_goals (intro p n; unfold_payloads; pointwise [weight]; simp only [unpack_lit, sitofp_real, high_mul_sixteenth])
  all_goals pointwise
  all_goals (congr 3; apply Fin.ext; simp <;> omega)

/-- A tile of the product: quantised activations times weights, times the activations' scale, times the column's scale. -/
def prodTile (X : FVec Ideal S256x1024 .fp8e4m3) (W : Fin 1024 → Fin 512 → EReal) (v0 : EReal) (v8 : FVec Ideal S1x512 .f32)
    (r : Fin 256) (n : Fin 512) : EReal := (∑ k : Fin 1024, X (ix2 r k) * W k n) * v0 * v8 (ix2 0 n)

/-- The general branch: what one trip of its loop stores. -/
theorem tileGeneral (c : Dev nD) (arg4 : Memref sig .tc .vmem S1024x512 .i8) (harg4 : arg4.IsWhole) (a : BitVec 32) (v0 : EReal)
    (v8 : FVec Ideal S1x512 .f32) (g : FVec Ideal S8x512 .f32) (w : IVec S1024x512 8) (X : FVec Ideal S256x1024 .fp8e4m3) (r : Fin 256) (n : Fin 512) :
    k0_pay3 (F := Ideal) a v0 v8 (k0_pay43 g) (restGeneral.sl.r c arg4 harg4 a g w) (restGeneral.sl.r_1 c arg4 harg4 a g w)
      (restGeneral.sl.r_3 c arg4 harg4 a g w) (restGeneral.sl.r_4 c arg4 harg4 a g w) (restGeneral.sl.r_5 c arg4 harg4 a g w)
      (restGeneral.sl.r_6 (F := Ideal) c arg4 harg4 a w)
      (View.readAt (Elt Ideal) arg4.view (Rect.unit (s := S1024x512) ![768, 0] S128x512.size inb_S1024x512_S128x512_768_0).toLoadRect (harg4.unread w))
      (View.readAt (Elt Ideal) arg4.view (Rect.unit (s := S1024x512) ![896, 0] S128x512.size inb_S1024x512_S128x512_896_0).toLoadRect (harg4.unread w))
      X (ix2 r n) = prodTile X (weight (a == 0#32) w g) v0 v8 r n := by
  have tile : ∀ V : FVec Ideal S1024x512 .bf16, (∀ k n, V (ix2 k n) = weight (a == 0#32) w g k n) →
      truncf (F := Ideal) .bf16 (mulf (mulf (matmul dot_S256x1024_S1024x512_S256x512_1_0_0_1_n_n none
        (extf .bf16 (shapeCast S256x1024 X shapeCasts_S256x1024_S256x1024) bitsLt_fp8e4m3_bf16) V (constant S256x512 .f32 0x00000000#32))
        (broadcast S256x512 v0)) (broadcastTo S256x512 v8 broadcasts_S1x512_S256x512)) bitsLt_bf16_f32 (ix2 r n)
        = prodTile X (weight (a == 0#32) w g) v0 v8 r n := by
    intro V hV
    pointwise [prodTile]
    simp only [hV]
  unfold k0_pay3
  refine tile _ fun k n => ?_
  unfold restGeneral.sl.r restGeneral.sl.r_1 restGeneral.sl.r_3 restGeneral.sl.r_4 restGeneral.sl.r_5 restGeneral.sl.r_6 restGeneral.sl.r_2
  simp only [View.readAt_eq_ld, Memref.IsWhole.read_unread]
  refine concat8 _ _ _ _ _ _ _ _ (weight (a == 0#32) w g) _ ?_ ?_ ?_ ?_ ?_ ?_ ?_ ?_ k n
  all_goals (intro p n; unfold_payloads; pointwise [weight]; simp only [unpack_lit, sitofp_real, high_sixteenth_mul])
  all_goals pointwise
  all_goals (congr 3; apply Fin.ext; simp <;> omega)

/-- The branch for scales that fit: what it stores, from its stacked weights, in the two ways its payloads split. -/
theorem tileFast41 (c : Dev nD) (arg4 : Memref sig .tc .vmem S1024x512 .i8) (harg4 : arg4.IsWhole) (a : BitVec 32) (v0 : EReal)
    (v8 : FVec Ideal S1x512 .f32) (g : FVec Ideal S8x512 .f32) (w : IVec S1024x512 8) (X : FVec Ideal S256x1024 .fp8e4m3) (r : Fin 256) (n : Fin 512) :
    k0_pay41 (F := Ideal) v0 v8 (restFast.sl.r_7 c arg4 harg4 a g w) X (ix2 r n) = prodTile X (weight (a == 0#32) w g) v0 v8 r n := by
  pointwise [k0_pay41, prodTile]
  simp only [wFast]

/-- The same for the payload that is handed the stacked weights in pieces, the last of them still packed. -/
theorem tileFast36 (c : Dev nD) (arg4 : Memref sig .tc .vmem S1024x512 .i8) (harg4 : arg4.IsWhole) (a : BitVec 32) (v0 : EReal)
    (v8 : FVec Ideal S1x512 .f32) (g : FVec Ideal S8x512 .f32) (w : IVec S1024x512 8) (X : FVec Ideal S256x1024 .fp8e4m3) (r : Fin 256) (n : Fin 512) :
    k0_pay36 (F := Ideal) a v0 v8 (k0_pay27 g) (restFast.sl.r c arg4 harg4 a g w) (restFast.sl.r_1 c arg4 harg4 a g w)
      (restFast.sl.r_3 c arg4 harg4 a g w) (restFast.sl.r_4 c arg4 harg4 a g w) (restFast.sl.r_5 c arg4 harg4 a g w) (restFast.sl.r_6 c arg4 harg4 a g w)
      (View.readAt (Elt Ideal) arg4.view (Rect.unit (s := S1024x512) ![768, 0] S128x512.size inb_S1024x512_S128x512_768_0).toLoadRect (harg4.unread w))
      (View.readAt (Elt Ideal) arg4.view (Rect.unit (s := S1024x512) ![896, 0] S128x512.size inb_S1024x512_S128x512_896_0).toLoadRect (harg4.unread w))
      X (ix2 r n) = prodTile X (weight (a == 0#32) w g) v0 v8 r n :=
  tileFast41 c arg4 harg4 a v0 v8 g w X r n

/-- The same for the payload whose rows of codes the branch reads from the buffer of all codes: the tile of rows 256 to 511. -/
theorem tileFast38 (c : Dev nD) (arg4 : Memref sig .tc .vmem S1024x512 .i8) (harg4 : arg4.IsWhole) (arg8 : Memref sig .tc .vmem S1536x1024 .fp8e4m3) (harg8 : arg8.IsWhole) (a : BitVec 32) (v0 : EReal)
    (v8 : FVec Ideal S1x512 .f32) (g : FVec Ideal S8x512 .f32) (w : IVec S1024x512 8) (x8 : FVec Ideal S1536x1024 .fp8e4m3) (r : Fin 256) (n : Fin 512) :
    k0_pay38 (F := Ideal) v8 (restFast.sl.r_8 c arg4 harg4 arg8 harg8 a v0 g w x8) (ix2 r n)
      = prodTile (View.readAt (Elt Ideal) arg8.view (Rect.unit (s := S1536x1024) ![256, 0] S256x1024.size inb_S1536x1024_S256x1024_256_0).toLoadRect (harg8.unread x8))
          (weight (a == 0#32) w g) v0 v8 r n :=
  tileFast41 c arg4 harg4 a v0 v8 g w _ r n

/-- The same for the last tile the branch stores: rows 1280 to 1535. -/
theorem tileFast2 (c : Dev nD) (arg4 : Memref sig .tc .vmem S1024x512 .i8) (harg4 : arg4.IsWhole) (arg8 : Memref sig .tc .vmem S1536x1024 .fp8e4m3) (harg8 : arg8.IsWhole) (a : BitVec 32) (v0 : EReal)
    (v8 : FVec Ideal S1x512 .f32) (g : FVec Ideal S8x512 .f32) (w : IVec S1024x512 8) (x8 : FVec Ideal S1536x1024 .fp8e4m3) (r : Fin 256) (n : Fin 512) :
    k0_pay2 (F := Ideal) v8 (restFast.sl.r_9 c arg4 harg4 arg8 harg8 a v0 g w x8) (ix2 r n)
      = prodTile (View.readAt (Elt Ideal) arg8.view (Rect.unit (s := S1536x1024) ![1280, 0] S256x1024.size inb_S1536x1024_S256x1024_1280_0).toLoadRect (harg8.unread x8))
          (weight (a == 0#32) w g) v0 v8 r n :=
  tileFast41 c arg4 harg4 a v0 v8 g w _ r n

end Cert.KernelIdeal.Val

end
-- ==== Proof.ValueY.lean ====
module

public import proofs.«01_k».proof.Proof.Weights
public import Idealize.ShloMosaic.Lib.Pipeline.ValueKit

@[expose] public section

set_option maxRecDepth 16384

noncomputable section

/-! The product's block at an index, whichever branch stored it. -/

namespace Cert.KernelIdeal.Val

open Cert.KernelIdeal Cert.KernelIdeal.Gen Cert.KernelIdeal.Run Cert.Nibble
open Idealize.ShloMosaic Idealize.ShloMosaic.TcCoe

/-- A tile of the product is the product at the tile's rows. -/
theorem prodTile_ld (x8 : Vec Ideal S1536x1024 .fp8e4m3) (W : Fin 1024 → Fin 512 → EReal) (v0 : EReal) (v8 : FVec Ideal S1x512 .f32)
    (off : Fin 2 → ℕ) (inb : ∀ a, off a + S256x1024.size a ≤ S1536x1024.size a) (h1 : off 1 = 0) (r : Fin 256) (n : Fin 512) (R : Fin 1536)
    (h0 : R.val = off 0 + r.val) :
    prodTile (View.ld (e' := .fp8e4m3) x8 (Rect.unit (s := S1536x1024) off S256x1024.size inb)) W v0 v8 r n
      = (∑ k : Fin 1024, x8 (ix2 R k) * W k n) * v0 * v8 (ix2 0 n) := by
  unfold prodTile
  congr 2
  refine Finset.sum_congr rfl fun k _ => ?_
  congr 1
  refine View.ld_unit_apply_of (e := .fp8e4m3) x8 off _ inb _ (ix2 R k) fun a => ?_
  match a with
  | ⟨0, _⟩ => exact h0
  | ⟨1, _⟩ => show k.val = off 1 + k.val; rw [h1]; omega

/-- What holds of every trip's piece holds of all the pieces the trips before the `n`-th store. -/
theorem allTrips (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (arg1 : BitVec 32) (v0 : Elt Ideal .f32) (v8 : FVec Ideal S1x512 .f32) (v100 : FVec Ideal S8x512 .bf16) (v115 : FVec Ideal S128x512 .bf16) (v130 : FVec Ideal S128x512 .bf16) (v145 : FVec Ideal S128x512 .bf16) (v160 : FVec Ideal S128x512 .bf16) (v175 : FVec Ideal S128x512 .bf16) (v184 : IVec S128x512 8) (v191 : Vec Ideal S128x512 .i8) (v206 : Vec Ideal S128x512 .i8) (X) (y : S1536x512.Idx) (v : Elt Ideal .bf16)
    (h : ∀ k : Fin k0_t1_loop.trips, View.TileAt y (k0_off2 k) S256x512.size (k0_pay3 arg1 v0 v8 v100 v115 v130 v145 v160 v175 v184 v191 v206
      (View.readAt (Elt Ideal) arg8.view (Rect.unit (s := S1536x1024) (k0_off1 k) S256x1024.size (k0_off1_inb k)).toLoadRect X)) v) (n : ℕ) (hn : n ≤ k0_t1_loop.trips) :
    View.AllAt (pb_k0_t1 (F := Ideal) Variants.none c none i arg2 harg2 arg3 harg3 arg4 harg4 arg5 harg5 arg6 harg6 arg7 harg7 arg8 harg8 arg9 harg9 arg1 v0 v8 v100 v115 v130 v145 v160 v175 v184 v191 v206 X n) y v := by
  induction n with
  | zero => exact View.allAt_nil _ _
  | succ n ih =>
    rw [pb_k0_t1_succ (F := Ideal) Variants.none c none i arg2 harg2 arg3 harg3 arg4 harg4 arg5 harg5 arg6 harg6 arg7 harg7 arg8 harg8 arg9 harg9 arg1 v0 v8 v100 v115 v130 v145 v160 v175 v184 v191 v206 X ⟨n, hn⟩, trip_eq]
    exact View.allAt_cons_unit _ _ _ _ _ (h ⟨n, hn⟩) (ih (by omega))

set_option maxHeartbeats 1000000 in
/-- The product's block, whichever branch stored it: at row `R` and column `n` the sum of the quantised activations times
    the weights, times the activations' scale, times the column's scale. -/
theorem yOf_apply (c : Dev nD) (i : grid0.Coords) (arg2 : Memref sig .tc .smem S1 .f32) (harg2 : arg2.IsWhole) (arg3 : Memref sig .tc .vmem S1536x1024 .bf16) (harg3 : arg3.IsWhole) (arg4 : Memref sig .tc .vmem S1024x512 .i8) (harg4 : arg4.IsWhole) (arg5 : Memref sig .tc .vmem S8x512 .f32) (harg5 : arg5.IsWhole) (arg6 : Memref sig .tc .vmem S1x512 .f32) (harg6 : arg6.IsWhole)
    (arg7 : Memref sig .tc .vmem S1536x512 .bf16) (harg7 : arg7.IsWhole) (arg8 : Memref sig .tc .vmem S1536x1024 .fp8e4m3) (harg8 : arg8.IsWhole) (arg9 : Memref sig .tc .vmem S6x256 .f32) (harg9 : arg9.IsWhole)
    (res : Res Ideal) (x4 : Vec Ideal S1024x512 .i8) (x8 : Vec Ideal S1536x1024 .fp8e4m3) (R : Fin 1536) (n : Fin 512) :
    yOf c i arg2 harg2 arg3 harg3 arg4 harg4 arg5 harg5 arg6 harg6 arg7 harg7 arg8 harg8 arg9 harg9 res x4 x8 (ix2 R n)
      = (∑ k : Fin 1024, x8 (ix2 R k) * weight (res.1 == 0#32) x4 res.2.2.1 k n) * res.2.1 * res.2.2.2.1 (ix2 0 n) := by
  unfold yOf
  split_ifs with hf
  · unfold restFast
    dsimp only
    canon_tiles x h
    all_goals
      obtain ⟨r, n', rfl⟩ : ∃ (r : Fin 256) (n' : Fin 512), x = ix2 r n' := ⟨x 0, x 1, eq_ix2 x⟩
      obtain rfl : n' = n := Fin.ext h1.symm
      first
        | refine Eq.trans (tileFast41 c arg4 harg4 _ _ _ _ _ _ r _) ?_
        | refine Eq.trans (tileFast36 c arg4 harg4 _ _ _ _ _ _ r _) ?_
        | refine Eq.trans (tileFast38 c arg4 harg4 arg8 harg8 _ _ _ _ _ _ r _) ?_
        | refine Eq.trans (tileFast2 c arg4 harg4 arg8 harg8 _ _ _ _ _ _ r _) ?_
      try rw [View.readAt_eq_ld, Memref.IsWhole.read_unread]
      refine prodTile_ld x8 _ _ _ _ _ ?_ r n' R ?_
      · rfl
      · simpa using h0
  · refine View.canon_eq_of_allAt _ _ _ (coverGeneral c i arg2 harg2 arg3 harg3 arg4 harg4 arg5 harg5 arg6 harg6 arg7 harg7 arg8 harg8 arg9 harg9 res.1 res.2.1 res.2.2.1 res.2.2.2.1 res.2.2.2.2.1 res.2.2.2.2.2 x4 x8 hf _) ?_
    unfold restGeneral
    dsimp only
    refine allTrips c i arg2 harg2 arg3 harg3 arg4 harg4 arg5 harg5 arg6 harg6 arg7 harg7 arg8 harg8 arg9 harg9 _ _ _ _ _ _ _ _ _ _ _ _ _ _ _ (fun k x h => ?_) 6 (by rw [trips_eq])
    obtain ⟨r, n', rfl⟩ : ∃ (r : Fin 256) (n' : Fin 512), x = ix2 r n' := ⟨x 0, x 1, eq_ix2 x⟩
    have h0 := h 0
    have h1 := h 1
    rw [off2_eq] at h0 h1
    obtain rfl : n' = n := Fin.ext (by simpa using h1.symm)
    refine Eq.trans (tileGeneral c arg4 harg4 _ _ _ _ _ _ r _) ?_
    rw [View.readAt_eq_ld, Memref.IsWhole.read_unread]
    refine prodTile_ld x8 _ _ _ _ _ ?_ r n' R ?_
    · rw [off1_eq]; rfl
    · rw [off1_eq]; simpa using h0

end Cert.KernelIdeal.Val

end
-- ==== Proof.Spec.lean ====
module

public import proofs.«01_k».proof.Proof.Nibble

@[expose] public section

noncomputable section

/-! The three results of the layer, element by element, over the extended reals. -/

namespace Cert.Spec

open Idealize.ShloMosaic Cert.Nibble

/-- One activation quantised: times the scale's reciprocal, clipped to the format's range. -/
def quant (x s : EReal) : EReal :=
  min (Ideal.ofBits FTy.f32 0x43E00000#32) (max (Ideal.ofBits FTy.f32 0xC3E00000#32) (x * Ideal.div 1 s))

/-- The quantised activation of row `R` (of the two leading axes read as one) at `k`. -/
def xc (x : Fin 6 → Fin 256 → Fin 1024 → EReal) (s : EReal) (R : Fin 1536) (k : Fin 1024) : EReal :=
  quant (x ⟨R.val / 256, by omega⟩ ⟨R.val % 256, by omega⟩ k) s

/-- The weight at `k`, `N`: the four-bit code of the packed byte (the low one for the first half of the columns, the high
    one for the second), times its group's scale. -/
def weight (w : Fin 1024 → Fin 5632 → BitVec 8) (g : Fin 8 → Fin 11264 → EReal) (k : Fin 1024) (N : Fin 11264) : EReal :=
  (((code (decide (N.val < 5632)) (w k ⟨N.val % 5632, by omega⟩) : ℤ) : ℝ) : EReal) * g ⟨k.val / 128, by omega⟩ N

/-- The layer's output: activations times weights, times the activations' scale, times the column's scale. -/
def y (x : Fin 6 → Fin 256 → Fin 1024 → EReal) (s : EReal) (w : Fin 1024 → Fin 5632 → BitVec 8) (g : Fin 8 → Fin 11264 → EReal)
    (ws : Fin 11264 → EReal) (R : Fin 1536) (N : Fin 11264) : EReal :=
  (∑ k : Fin 1024, xc x s R k * weight w g k N) * s * ws N

/-- A row's largest absolute value. -/
def amax (x : Fin 6 → Fin 256 → Fin 1024 → EReal) (b : Fin 6) (r : Fin 256) : EReal :=
  Finset.fold max (Ideal.ofBits FTy.f32 0xFF800000#32) (fun k : Fin 1024 => FloatOps.absf (F := Ideal) (φ := .f32) (x b r k)) Finset.univ

end Cert.Spec

end
-- ==== Proof.ValueKernel.lean ====
module

public import proofs.«01_k».proof.Proof.ValueY
public import proofs.«01_k».proof.Proof.Spec
public import Idealize.ShloMosaic.Lib.Pipeline.ValueKit

@[expose] public section

set_option maxRecDepth 16384

noncomputable section

/-! What the kernel's body leaves, at an index, in terms of the arguments. -/

namespace Cert.KernelIdeal.Val

open Cert.KernelIdeal Cert.KernelIdeal.Gen Cert.KernelIdeal.Run Cert.Nibble Cert.Spec
open Idealize.ShloMosaic Idealize.ShloMosaic.TcCoe Idealize.SL.Sem
open Idealize.ShloMosaic.Pipeline (Dat)

variable (m : (ℓ : Loc nD τ sig) → Buf (Elt Ideal) ℓ)

/-- Which block each window takes at a point. -/
theorem idx : ∀ t : Fin cfg0.N, win0_0.index t = ![0] ∧ win0_1.index t = ![0, 0] ∧ win0_2.index t = ![0, (grid0.coords t 0).val]
    ∧ win0_3.index t = ![0, (grid0.coords t 1).val * 11 + (grid0.coords t 0).val] ∧ win0_4.index t = ![0, (grid0.coords t 1).val * 11 + (grid0.coords t 0).val]
    ∧ win0_5.index t = ![0, (grid0.coords t 1).val * 11 + (grid0.coords t 0).val] ∧ win0_6.index t = ![0, 0] ∧ win0_7.index t = ![0, 0] :=
  (by decide +kernel : ∀ t : Fin grid0.N, _)

/-- The half of the output a point works on, as a word. -/
theorem res1 (c : Dev nD) (t : Fin cfg0.N) : (resAt m c t).1 = BitVec.ofNat 32 (grid0.coords t 1).val := by
  unfold resAt; split_ifs
  · unfold headFirst; rfl
  · unfold headLater; rfl

/-- The activations' scale a point reads. -/
theorem res2 (c : Dev nD) (t : Fin cfg0.N) : (resAt m c t).2.1 = iblk m c 0 t (ix1 0) := by
  unfold resAt; split_ifs
  · unfold headFirst; dsimp only; unfold headFirst.sl.r; simp only [View.readAt_eq_ld, Memref.IsWhole.read_unread]; pointwise
  · unfold headLater; dsimp only; unfold headLater.sl.r; simp only [View.readAt_eq_ld, Memref.IsWhole.read_unread]; pointwise

/-- The groups' scales a point reads. -/
theorem res3 (c : Dev nD) (t : Fin cfg0.N) (q : Fin 8) (n : Fin 512) : (resAt m c t).2.2.1 (ix2 q n) = iblk m c 3 t (ix2 q n) := by
  unfold resAt; split_ifs
  · unfold headFirst; dsimp only; simp only [View.readAt_eq_ld, Memref.IsWhole.read_unread]; pointwise
  · unfold headLater; dsimp only; simp only [View.readAt_eq_ld, Memref.IsWhole.read_unread]; pointwise

/-- The columns' scales a point reads. -/
theorem res4 (c : Dev nD) (t : Fin cfg0.N) (n : Fin 512) : (resAt m c t).2.2.2.1 (ix2 0 n) = iblk m c 4 t (ix2 0 n) := by
  unfold resAt; split_ifs
  · unfold headFirst; dsimp only; simp only [View.readAt_eq_ld, Memref.IsWhole.read_unread]; unfold_payloads; pointwise
  · unfold headLater; dsimp only; simp only [View.readAt_eq_ld, Memref.IsWhole.read_unread]; unfold_payloads; pointwise

/-- The quantised activations the first point stores. -/
theorem xcAll_apply (c : Dev nD) (R : Fin 1536) (k : Fin 1024) :
    xcAll m c (ix2 R k) = quant (iblk m c 1 t0 (ix2 R k)) (iblk m c 0 t0 (ix1 0)) := by
  unfold xcAll hd0 headFirst
  dsimp only
  canon_tiles x h
  all_goals try unfold headFirst.sl.r_14
  all_goals try unfold headFirst.sl.r_13
  all_goals try unfold headFirst.sl.r_12
  all_goals try unfold headFirst.sl.r_11
  all_goals try unfold headFirst.sl.r_10
  all_goals try unfold headFirst.sl.r_9
  all_goals try unfold headFirst.sl.r_8
  all_goals try unfold headFirst.sl.r_7
  all_goals try unfold headFirst.sl.r_6
  all_goals try unfold headFirst.sl.r_5
  all_goals try unfold headFirst.sl.r_4
  all_goals try unfold headFirst.sl.r_3
  all_goals try unfold headFirst.sl.r_2
  all_goals try unfold headFirst.sl.r_1
  all_goals try unfold headFirst.sl.r
  all_goals try unfold headFirst.sl.cst_68
  all_goals try simp only [View.readAt_eq_ld, Memref.IsWhole.read_unread]
  all_goals (unfold_payloads; pointwise)
  all_goals
    refine congrArg (fun z => quant z _) (congrArg (iblk m c 1 t0) ?_)
    have h0' := h0
    have h1' := h1
    simp at h0' h1'
    exact congrArg₂ ix2 (Fin.ext h0'.symm) (Fin.ext h1'.symm)

/-- A row's maximum over 128 lanes of maxima of eight is its maximum. -/
theorem rowmax (f : Fin 1024 → EReal) (b : EReal) :
    Finset.fold max b (fun x : Fin 128 => max (max (max (max (max (max (max (f ⟨x.val, by omega⟩) (f ⟨128 + x.val, by omega⟩)) (f ⟨256 + x.val, by omega⟩))
      (f ⟨384 + x.val, by omega⟩)) (f ⟨512 + x.val, by omega⟩)) (f ⟨640 + x.val, by omega⟩)) (f ⟨768 + x.val, by omega⟩)) (f ⟨896 + x.val, by omega⟩)) Finset.univ
      = Finset.fold max b f Finset.univ := by
  refine eq_of_forall_ge_iff fun z => ?_
  simp only [Finset.fold_max_le, Finset.mem_univ, true_implies, max_le_iff]
  refine and_congr_right fun _ => ⟨fun h k => ?_, fun h x => ⟨⟨⟨⟨⟨⟨⟨h _, h _⟩, h _⟩, h _⟩, h _⟩, h _⟩, h _⟩, h _⟩⟩
  have hk := h ⟨k.val % 128, by omega⟩
  have hq : k.val / 128 < 8 := by omega
  obtain ⟨⟨⟨⟨⟨⟨⟨a0, a1⟩, a2⟩, a3⟩, a4⟩, a5⟩, a6⟩, a7⟩ := hk
  have e : ∀ (o : ℕ) (ho : o + k.val % 128 < 1024), o + k.val % 128 = k.val → f ⟨o + k.val % 128, ho⟩ = f k := fun o ho h => congrArg f (Fin.ext h)
  have hc : k.val / 128 = 0 ∨ k.val / 128 = 1 ∨ k.val / 128 = 2 ∨ k.val / 128 = 3 ∨ k.val / 128 = 4 ∨ k.val / 128 = 5 ∨ k.val / 128 = 6 ∨ k.val / 128 = 7 := by omega
  rcases hc with h | h | h | h | h | h | h | h
  · have e0 : f ⟨k.val % 128, by omega⟩ = f k := congrArg f (Fin.ext (by show k.val % 128 = k.val; omega))
    rw [← e0]; exact a0
  · rw [← e 128 (by omega) (by omega)]; exact a1
  · rw [← e 256 (by omega) (by omega)]; exact a2
  · rw [← e 384 (by omega) (by omega)]; exact a3
  · rw [← e 512 (by omega) (by omega)]; exact a4
  · rw [← e 640 (by omega) (by omega)]; exact a5
  · rw [← e 768 (by omega) (by omega)]; exact a6
  · rw [← e 896 (by omega) (by omega)]; exact a7

/-- The row maxima the first point stores. -/
theorem amaxAll_apply (c : Dev nD) (B : Fin 6) (r : Fin 256) :
    amaxAll m c (ix2 B r) = Finset.fold max (Ideal.ofBits FTy.f32 0xFF800000#32)
      (fun k : Fin 1024 => FloatOps.absf (F := Ideal) (φ := .f32) (iblk m c 1 t0 (ix2 ⟨256 * B.val + r.val, by omega⟩ k))) Finset.univ := by
  unfold amaxAll hd0 headFirst
  dsimp only
  canon_tiles x h
  all_goals try unfold headFirst.sl.r_14
  all_goals try unfold headFirst.sl.r_13
  all_goals try unfold headFirst.sl.r_12
  all_goals try unfold headFirst.sl.r_11
  all_goals try unfold headFirst.sl.r_10
  all_goals try unfold headFirst.sl.r_9
  all_goals try unfold headFirst.sl.r_8
  all_goals try unfold headFirst.sl.r_7
  all_goals try unfold headFirst.sl.r_6
  all_goals try unfold headFirst.sl.r_5
  all_goals try unfold headFirst.sl.r_4
  all_goals try unfold headFirst.sl.r_3
  all_goals try unfold headFirst.sl.r_2
  all_goals try unfold headFirst.sl.r_1
  all_goals try unfold headFirst.sl.r
  all_goals try simp only [View.readAt_eq_ld, Memref.IsWhole.read_unread]
  all_goals (unfold_payloads; pointwise)
  all_goals
    have h0' := h0
    have h1' := h1
    simp at h0' h1'
    clear h0 h1
    revert h0' h1'
    generalize (iblk m c 1 t0 : Vec Ideal S1536x1024 .bf16) = X
    generalize Ideal.ofBits FTy.f32 4286578688#32 = b
    intro h0' h1'
    have key := fun (p : Fin 1536) (h : p.val = 256 * B.val + r.val) =>
      (rowmax (fun k => FloatOps.absf (F := Ideal) (φ := .f32) (X (ix2 p k))) b).trans (congrArg
        (fun p : Fin 1536 => Finset.fold max b (fun k : Fin 1024 => FloatOps.absf (F := Ideal) (φ := .f32) (X (ix2 p k))) Finset.univ)
        (Fin.ext h : p = ⟨256 * B.val + r.val, by omega⟩))
    first
    | have h : 1280 + (x 1).val = 256 * B.val + r.val := by omega
      exact key ⟨1280 + (x 1).val, by omega⟩ h
    | have h : 1024 + (x 1).val = 256 * B.val + r.val := by omega
      exact key ⟨1024 + (x 1).val, by omega⟩ h
    | have h : 768 + (x 1).val = 256 * B.val + r.val := by omega
      exact key ⟨768 + (x 1).val, by omega⟩ h
    | have h : 512 + (x 1).val = 256 * B.val + r.val := by omega
      exact key ⟨512 + (x 1).val, by omega⟩ h
    | have h : 256 + (x 1).val = 256 * B.val + r.val := by omega
      exact key ⟨256 + (x 1).val, by omega⟩ h
    | have h : (x 1).val = 256 * B.val + r.val := by omega
      exact key ⟨(x 1).val, by omega⟩ h

end Cert.KernelIdeal.Val

end
-- ==== Proof.ValueArrays.lean ====
module

public import proofs.«01_k».proof.Proof.ValueKernel
public import Idealize.ShloMosaic.Lib.Pipeline.ValueKit
public import Idealize.ShloMosaic.Lib.Claim

@[expose] public section

set_option maxRecDepth 16384

noncomputable section

/-! The arrays the kernel's run leaves, in terms of its arguments. -/

namespace Cert.KernelIdeal.Val

open Cert.KernelIdeal Cert.KernelIdeal.Gen Cert.KernelIdeal.Run Cert.Nibble Cert.Spec
open Idealize.ShloMosaic Idealize.ShloMosaic.TcCoe Idealize.SL.Sem
open Idealize.ShloMosaic.Pipeline (Dat)

variable (m : (ℓ : Loc nD τ sig) → Buf (Elt Ideal) ℓ)

/-- The activations at coordinates. -/
def argX (c : Dev nD) (b : Fin 6) (r : Fin 256) (k : Fin 1024) : EReal := m ((c.tc : Thread nD τ).loc main_arg0) (ix3 b r k)
/-- Their scale. -/
def argS (c : Dev nD) : EReal := m ((c.tc : Thread nD τ).loc main_arg1) (ix1 0)
/-- The packed weights at coordinates. -/
def argW (c : Dev nD) (k : Fin 1024) (n : Fin 5632) : BitVec 8 := m ((c.tc : Thread nD τ).loc main_arg2) (ix2 k n)
/-- The groups' scales at coordinates. -/
def argG (c : Dev nD) (q : Fin 8) (n : Fin 11264) : EReal := m ((c.tc : Thread nD τ).loc main_arg3) (ix2 q n)
/-- The columns' scales at coordinates. -/
def argWs (c : Dev nD) (n : Fin 11264) : EReal := m ((c.tc : Thread nD τ).loc main_arg4) (ix1 n)

/-- The activations' scale, read through its window. -/
theorem blk0 (c : Dev nD) (t : Fin cfg0.N) : iblk m c 0 t (ix1 0) = argS m c := by
  unfold argS; blk_ext [iblk, V, idx t]

/-- The activations, read through their window: the rows of the two leading axes read as one. -/
theorem blk1 (c : Dev nD) (t : Fin cfg0.N) (R : Fin 1536) (k : Fin 1024) :
    iblk m c 1 t (ix2 R k) = argX m c ⟨R.val / 256, by omega⟩ ⟨R.val % 256, by omega⟩ k := by
  unfold argX
  blk_simp [iblk, idx t]
  entry_read
  pointwise
  blk_ext [idx t]

/-- The packed bytes of a point. -/
theorem blk2 (c : Dev nD) (t : Fin cfg0.N) (k : Fin 1024) (n : Fin 512) :
    iblk m c 2 t (ix2 k n) = argW m c k ⟨(grid0.coords t 0).val * 512 + n.val, by have h : (grid0.coords t 0).val < 11 := (grid0.coords t 0).isLt; omega⟩ := by
  unfold argW; blk_ext [iblk, V, idx t]

/-- A column of a point's block lies in the output. -/
theorem lt3 (t : Fin cfg0.N) (n : Fin 512) : ((grid0.coords t 1).val * 11 + (grid0.coords t 0).val) * 512 + n.val < 11264 := by
  have h0 : (grid0.coords t 0).val < 11 := (grid0.coords t 0).isLt
  have h1 : (grid0.coords t 1).val < 2 := (grid0.coords t 1).isLt
  omega

/-- The groups' scales of a point. -/
theorem blk3 (c : Dev nD) (t : Fin cfg0.N) (q : Fin 8) (n : Fin 512) :
    iblk m c 3 t (ix2 q n) = argG m c q ⟨((grid0.coords t 1).val * 11 + (grid0.coords t 0).val) * 512 + n.val, lt3 t n⟩ := by
  unfold argG; blk_ext [iblk, V, idx t]

/-- The columns' scales of a point. -/
theorem blk4 (c : Dev nD) (t : Fin cfg0.N) (n : Fin 512) :
    iblk m c 4 t (ix2 0 n) = argWs m c ⟨((grid0.coords t 1).val * 11 + (grid0.coords t 0).val) * 512 + n.val, lt3 t n⟩ := by
  unfold argWs
  blk_simp [iblk, idx t]
  entry_read
  pointwise
  blk_ext [idx t]

/-- The kernel's weights at a point are the layer's. -/
theorem weight_at (c : Dev nD) (t : Fin cfg0.N) (k : Fin 1024) (n : Fin 512) :
    Val.weight ((resAt m c t).1 == 0#32) (iblk m c 2 t) (resAt m c t).2.2.1 k n
      = Spec.weight (argW m c) (argG m c) k ⟨((grid0.coords t 1).val * 11 + (grid0.coords t 0).val) * 512 + n.val, lt3 t n⟩ := by
  have h0 : (grid0.coords t 0).val < 11 := (grid0.coords t 0).isLt
  have h1 : (grid0.coords t 1).val < 2 := (grid0.coords t 1).isLt
  unfold Val.weight Spec.weight
  rw [res1, res3, blk2, blk3]
  have e : (BitVec.ofNat 32 (grid0.coords t 1).val == 0#32) = decide (((grid0.coords t 1).val * 11 + (grid0.coords t 0).val) * 512 + n.val < 5632) := by
    rcases (by omega : (grid0.coords t 1).val = 0 ∨ (grid0.coords t 1).val = 1) with h | h
    · rw [h, decide_eq_true (by omega)]; rfl
    · rw [h, decide_eq_false (by omega)]; rfl
  rw [e]
  have e2 : (⟨(grid0.coords t 0).val * 512 + n.val, by omega⟩ : Fin 5632)
      = ⟨(((grid0.coords t 1).val * 11 + (grid0.coords t 0).val) * 512 + n.val) % 5632, by omega⟩ := Fin.ext (by
    show (grid0.coords t 0).val * 512 + n.val = (((grid0.coords t 1).val * 11 + (grid0.coords t 0).val) * 512 + n.val) % 5632
    rcases (by omega : (grid0.coords t 1).val = 0 ∨ (grid0.coords t 1).val = 1) with h | h <;> rw [h] <;> omega)
  rw [e2]

/-- The quantised activations the first point leaves are the layer's. -/
theorem xc_at (c : Dev nD) (R : Fin 1536) (k : Fin 1024) : xcAll m c (ix2 R k) = xc (argX m c) (argS m c) R k := by
  rw [xcAll_apply, blk0, blk1]; rfl

/-- The row maxima the first point leaves are the layer's. -/
theorem amax_at (c : Dev nD) (B : Fin 6) (r : Fin 256) : amaxAll m c (ix2 B r) = amax (argX m c) B r := by
  rw [amaxAll_apply]
  unfold amax
  refine Finset.fold_congr fun k _ => ?_
  rw [blk1]
  have e1 : (⟨(256 * B.val + r.val) / 256, by omega⟩ : Fin 6) = B := Fin.ext (by show (256 * B.val + r.val) / 256 = B.val; omega)
  have e2 : (⟨(256 * B.val + r.val) % 256, by omega⟩ : Fin 256) = r := Fin.ext (by show (256 * B.val + r.val) % 256 = r.val; omega)
  rw [e1, e2]

/-- The block of the output a point leaves is the layer's. -/
theorem y_at (c : Dev nD) (t : Fin cfg0.N) (R : Fin 1536) (n : Fin 512) : yAt m c t (ix2 R n)
    = Spec.y (argX m c) (argS m c) (argW m c) (argG m c) (argWs m c) R ⟨((grid0.coords t 1).val * 11 + (grid0.coords t 0).val) * 512 + n.val, lt3 t n⟩ := by
  unfold yAt
  rw [yOf_apply, res2, res4, blk0, blk4]
  unfold Spec.y
  refine congrArg (fun z => z * argS m c * argWs m c _) (Finset.sum_congr rfl fun k _ => ?_)
  rw [xc_at, weight_at]

/-- The output array after the run. -/
theorem final5 (c : Dev nD) : (dats m 0 c).arrAt 5 (cfgs 0).N
    = fun i : S1536x11264.Idx => Spec.y (argX m c) (argS m c) (argW m c) (argG m c) (argWs m c) (i 0) (i 1) := by
  refine (dats m 0 c).arrAt_eq_of_covers 5 _ (by decide +kernel) fun t hf y => ?_
  blk_simp
  rw [after5]
  obtain ⟨R, n, rfl⟩ : ∃ (R : Fin 1536) (n : Fin 512), y = ix2 R n := ⟨y 0, y 1, eq_ix2 y⟩
  rw [y_at]
  refine congrArg₂ (Spec.y (argX m c) (argS m c) (argW m c) (argG m c) (argWs m c)) (Fin.ext ?_) (Fin.ext ?_)
  · blk_simp [idx t]
  · blk_simp [idx t]

/-- The grid's last point, at which the other two results are written back. -/
def tEnd : Fin cfg0.N := ⟨21, by decide⟩

/-- The array of quantised activations after the run. -/
theorem final6 (c : Dev nD) : (dats m 0 c).arrAt 6 (cfgs 0).N = fun i : S1536x1024.Idx => xc (argX m c) (argS m c) (i 0) (i 1) := by
  refine (dats m 0 c).arrAt_eq_of_after_last 6 tEnd (by decide +kernel) _ fun j => ?_
  blk_simp
  rw [after6]
  obtain ⟨R, n, rfl⟩ : ∃ (R : Fin 1536) (n : Fin 1024), j = ix2 R n := ⟨j 0, j 1, eq_ix2 j⟩
  exact xc_at m c R n

/-- The array of row maxima after the run. -/
theorem final7 (c : Dev nD) : (dats m 0 c).arrAt 7 (cfgs 0).N = fun i : S6x256.Idx => amax (argX m c) (i 0) (i 1) := by
  refine (dats m 0 c).arrAt_eq_of_after_last 7 tEnd (by decide +kernel) _ fun j => ?_
  blk_simp
  rw [after7]
  obtain ⟨R, n, rfl⟩ : ∃ (R : Fin 6) (n : Fin 256), j = ix2 R n := ⟨j 0, j 1, eq_ix2 j⟩
  exact amax_at m c R n

end Cert.KernelIdeal.Val

end
-- ==== Proof.ValueReference.lean ====
module

public import proofs.«01_k».proof.Proof.Spec
public import proofs.«01_k».proof.Proof.Gen.ReferenceIdeal.Frame
public import Idealize.ShloMosaic.Lib.Pipeline.ValueKit
public import Idealize.ShloMosaic.Lib.Claim
public import Idealize.ShloMosaic.Lib.Pointwise

@[expose] public section

set_option maxRecDepth 16384

noncomputable section

/-! What the reference leaves, in terms of its arguments. -/

namespace Cert.ReferenceIdeal.Val

open Cert.ReferenceIdeal Cert.ReferenceIdeal.Gen Cert.Nibble Cert.Spec
open Idealize.ShloMosaic Idealize.ShloMosaic.TcCoe Idealize.SL.Sem
open Idealize.ShloMosaic.Pipeline (Dat)

/-- The low code of a byte, as the reference takes it. -/
theorem low_code : ∀ b : BitVec 8,
    (Scalar.select (IntOp.cmpi CmpIPredicate.sge (BitVec.setWidth 8 (IntOp.andi (BitVec.setWidth 32 b) 15#32)) 8#8)
      (IntOp.subi (BitVec.setWidth 8 (IntOp.andi (BitVec.setWidth 32 b) 15#32)) 16#8)
      (BitVec.setWidth 8 (IntOp.andi (BitVec.setWidth 32 b) 15#32))).toInt = code true b := by decide +kernel

/-- The high code of a byte, as the reference takes it. -/
theorem high_code : ∀ b : BitVec 8,
    (Scalar.select (IntOp.cmpi CmpIPredicate.sge (BitVec.setWidth 8 (IntOp.shrsi ArithUnit.vector (BitVec.setWidth 32 b) 4#32)) 8#8)
      (IntOp.subi (BitVec.setWidth 8 (IntOp.shrsi ArithUnit.vector (BitVec.setWidth 32 b) 4#32)) 16#8)
      (BitVec.setWidth 8 (IntOp.shrsi ArithUnit.vector (BitVec.setWidth 32 b) 4#32))).toInt = code false b := by decide +kernel

/-- The quantised activations at an index. -/
theorem pay5_apply (s : EReal) (x : Vec Ideal S6x256x1024 .bf16) (b : Fin 6) (r : Fin 256) (k : Fin 1024) :
    k0_pay5 (F := Ideal) s x (ix3 b r k) = quant (x (ix3 b r k)) s := by
  unfold k0_pay5 quant
  pointwise [k0_pay3]

/-- The same with the two leading axes read as one. -/
theorem pay2_apply (v : FVec Ideal S6x256x1024 .fp8e4m3) (R : Fin 1536) (k : Fin 1024) :
    k0_pay2 (F := Ideal) v (ix2 R k) = v (ix3 ⟨R.val / 256, by omega⟩ ⟨R.val % 256, by omega⟩ k) := by
  unfold k0_pay2
  pointwise

/-- The row maxima at an index. -/
theorem pay4_apply (x : Vec Ideal S6x256x1024 .bf16) (b : Fin 6) (r : Fin 256) :
    k0_pay4 (F := Ideal) x (ix2 b r) = amax (fun b r k => x (ix3 b r k)) b r := by
  unfold k0_pay4 amax
  pointwise [k0_pay3]

/-- The first half's weights at an index. -/
theorem pay7_apply (w : Vec Ideal S1024x5632 .i8) (g : Vec Ideal S8x11264 .f32) (k : Fin 1024) (n : Fin 5632) :
    k0_pay7 (F := Ideal) w g (ix2 k n) = (((code true (w (ix2 k n)) : ℤ) : ℝ) : EReal) * g (ix2 ⟨k.val / 128, by omega⟩ ⟨n.val, by omega⟩) := by
  unfold k0_pay7
  pointwise [k0_pay6]
  rw [← low_code]; rfl

/-- The second half's codes at an index. -/
theorem pay9_apply (w : Vec Ideal S1024x5632 .i8) (k : Fin 1024) (n : Fin 5632) :
    k0_pay9 (F := Ideal) w (ix2 k n) = (((code false (w (ix2 k n)) : ℤ) : ℝ) : EReal) := by
  unfold k0_pay9
  pointwise [k0_pay6]
  rw [← high_code]; rfl

/-- The reference's output at an index. -/
theorem pay1_apply (x : Vec Ideal S6x256x1024 .bf16) (s : EReal) (w : Vec Ideal S1024x5632 .i8) (g : Vec Ideal S8x11264 .f32)
    (ws : Vec Ideal S1x11264 .f32) (R : Fin 1536) (N : Fin 11264) :
    k0_pay1 (F := Ideal) s (k0_pay5 s x) (k0_pay7 w g) (k0_pay8 g) (k0_pay9 w) ws (ix2 R N)
      = y (fun b r k => x (ix3 b r k)) s (fun k n => w (ix2 k n)) (fun q n => g (ix2 q n)) (fun n => ws (ix2 0 n)) R N := by
  unfold k0_pay1
  pointwise [k0_pay8]
  simp only [pay5_apply, pay7_apply, pay9_apply]
  unfold y
  refine congrArg (fun z => z * s * ws (ix2 0 N)) ?_
  split_ifs with h
  · refine Finset.sum_congr rfl fun k _ => ?_
    unfold xc Spec.weight
    rw [decide_eq_true h]
    have e : (⟨N.val % 5632, by omega⟩ : Fin 5632) = ⟨N.val, h⟩ := Fin.ext (Nat.mod_eq_of_lt h)
    rw [e]
  · refine Finset.sum_congr rfl fun k _ => ?_
    unfold xc Spec.weight
    rw [decide_eq_false h]
    have e : (⟨N.val % 5632, by omega⟩ : Fin 5632) = ⟨N.val - 5632, by omega⟩ := Fin.ext (by show N.val % 5632 = N.val - 5632; omega)
    have e2 : (⟨5632 + (N.val - 5632), by omega⟩ : Fin 11264) = N := Fin.ext (by show 5632 + (N.val - 5632) = N.val; omega)
    rw [e, e2]
  · exact absurd rfl (by assumption)

variable (m : (ℓ : Loc nD τ sig) → Buf (Elt Ideal) ℓ)

/-- The activations at coordinates. -/
def argX (c : Dev nD) (b : Fin 6) (r : Fin 256) (k : Fin 1024) : EReal := m ((c.tc : Thread nD τ).loc main_arg0) (ix3 b r k)
/-- Their scale. -/
def argS (c : Dev nD) : EReal := m ((c.tc : Thread nD τ).loc main_arg1) (ix1 0)
/-- The packed weights at coordinates. -/
def argW (c : Dev nD) (k : Fin 1024) (n : Fin 5632) : BitVec 8 := m ((c.tc : Thread nD τ).loc main_arg2) (ix2 k n)
/-- The groups' scales at coordinates. -/
def argG (c : Dev nD) (q : Fin 8) (n : Fin 11264) : EReal := m ((c.tc : Thread nD τ).loc main_arg3) (ix2 q n)
/-- The columns' scales at coordinates. -/
def argWs (c : Dev nD) (n : Fin 11264) : EReal := m ((c.tc : Thread nD τ).loc main_arg4) (ix1 n)

/-- Every window takes its whole array. -/
theorem idx : ∀ t : Fin cfg0.N, win0_0.index t = ![0] ∧ win0_1.index t = ![0, 0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The activations' scale, read through its window. -/
theorem blk0 (c : Dev nD) (t : Fin cfg0.N) : (iblk m c 0 t : Vec Ideal S1 .f32) (ix1 0) = argS m c := by
  unfold argS; blk_ext [iblk, V, idx t]

/-- The activations, read through their window. -/
theorem blk1 (c : Dev nD) (t : Fin cfg0.N) (b : Fin 6) (r : Fin 256) (k : Fin 1024) : iblk m c 1 t (ix3 b r k) = argX m c b r k := by
  unfold argX; blk_ext [iblk, V, idx t]

/-- The packed bytes, read through their window. -/
theorem blk2 (c : Dev nD) (t : Fin cfg0.N) (k : Fin 1024) (n : Fin 5632) : iblk m c 2 t (ix2 k n) = argW m c k n := by
  unfold argW; blk_ext [iblk, V, idx t]

/-- The groups' scales, read through their window. -/
theorem blk3 (c : Dev nD) (t : Fin cfg0.N) (q : Fin 8) (n : Fin 11264) : iblk m c 3 t (ix2 q n) = argG m c q n := by
  unfold argG; blk_ext [iblk, V, idx t]

/-- The columns' scales, read through their window. -/
theorem blk4 (c : Dev nD) (t : Fin cfg0.N) (n : Fin 11264) : iblk m c 4 t (ix2 0 n) = argWs m c n := by
  unfold argWs
  blk_simp [iblk, idx t]
  entry_read
  pointwise
  blk_ext [idx t]

/-- The one index of the scale's block. -/
theorem first_eq (h : 0 < S1.numel) : Shape.Idx.first h = ix1 0 := by
  rw [eq_ix1 (Shape.Idx.first h)]; exact congrArg ix1 (Subsingleton.elim _ _)

/-- The scale's load is its one element. -/
theorem ld_scale (x : Vec Ideal S1 .f32) : View.ld x (Rect.unit ![0] ![1] inb_S1_S1_0) (ix1 0) = x (ix1 0) := by
  pointwise

section Body

variable (c : Dev nD) (arg0 : Memref sig .tc .smem S1 .f32) (harg0 : arg0.IsWhole) (arg1 : Memref sig .tc .vmem S6x256x1024 .bf16)
  (harg1 : arg1.IsWhole) (arg2 : Memref sig .tc .vmem S1024x5632 .i8) (harg2 : arg2.IsWhole) (arg3 : Memref sig .tc .vmem S8x11264 .f32)
  (harg3 : arg3.IsWhole) (arg4 : Memref sig .tc .vmem S1x11264 .f32) (harg4 : arg4.IsWhole) (arg5 : Memref sig .tc .vmem S1536x11264 .bf16)
  (harg5 : arg5.IsWhole) (arg6 : Memref sig .tc .vmem S1536x1024 .fp8e4m3) (harg6 : arg6.IsWhole) (arg7 : Memref sig .tc .vmem S6x256 .f32)
  (harg7 : arg7.IsWhole) (x0 : Vec Ideal S1 .f32) (x1 : Vec Ideal S6x256x1024 .bf16) (x2 : Vec Ideal S1024x5632 .i8)
  (x3 : Vec Ideal S8x11264 .f32) (x4 : Vec Ideal S1x11264 .f32)

/-- What the body leaves of the quantised activations. -/
theorem out6_eq : out0_A_6 c arg0 harg0 arg1 harg1 arg2 harg2 arg3 harg3 arg4 harg4 arg5 harg5 arg6 harg6 arg7 harg7 x0 x1 x2 x3 x4 = k0_pay2 (k0_pay5 (x0 (ix1 0)) x1) := by
  frame_out
  rw [first_eq, ld_scale]

/-- What the body leaves of the row maxima. -/
theorem out7_eq : out0_A_7 c arg0 harg0 arg1 harg1 arg2 harg2 arg3 harg3 arg4 harg4 arg5 harg5 arg6 harg6 arg7 harg7 x0 x1 x2 x3 x4 = k0_pay4 x1 := by
  frame_out

/-- What the body leaves of the output. -/
theorem out5_eq : out0_A_5 c arg0 harg0 arg1 harg1 arg2 harg2 arg3 harg3 arg4 harg4 arg5 harg5 arg6 harg6 arg7 harg7 x0 x1 x2 x3 x4
    = k0_pay1 (x0 (ix1 0)) (k0_pay5 (x0 (ix1 0)) x1) (k0_pay7 x2 x3) (k0_pay8 x3) (k0_pay9 x2) x4 := by
  frame_out
  rw [first_eq, ld_scale]

end Body

/-- The first of three. -/
theorem fst_of {α β γ : Type} (a : α) (b : β) (c : γ) : (a, b, c).1 = a := rfl
/-- The second of three. -/
theorem mid_of {α β γ : Type} (a : α) (b : β) (c : γ) : (a, b, c).2.1 = b := rfl
/-- The third of three. -/
theorem last_of {α β γ : Type} (a : α) (b : β) (c : γ) : (a, b, c).2.2 = c := rfl

/-- The same at a point. -/
theorem outs6 (c : Dev nD) (t : Fin cfg0.N) : (outsAt0 m c t).2.1 = k0_pay2 (F := Ideal) (k0_pay5 (F := Ideal) ((iblk m c 0 t : Vec Ideal S1 .f32) (ix1 0)) (iblk m c 1 t)) := by
  have h := out6_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t)
  unfold outsAt0
  rw [mid_of]
  exact h

/-- The same at a point. -/
theorem outs7 (c : Dev nD) (t : Fin cfg0.N) : (outsAt0 m c t).2.2 = k0_pay4 (F := Ideal) (iblk m c 1 t) := by
  have h := out7_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t)
  unfold outsAt0
  rw [last_of]
  exact h

/-- The same at a point. -/
theorem outs5 (c : Dev nD) (t : Fin cfg0.N) : (outsAt0 m c t).1 = k0_pay1 (F := Ideal) ((iblk m c 0 t : Vec Ideal S1 .f32) (ix1 0)) (k0_pay5 (F := Ideal) ((iblk m c 0 t : Vec Ideal S1 .f32) (ix1 0)) (iblk m c 1 t))
    (k0_pay7 (F := Ideal) (iblk m c 2 t) (iblk m c 3 t)) (k0_pay8 (F := Ideal) (iblk m c 3 t)) (k0_pay9 (F := Ideal) (iblk m c 2 t)) (iblk m c 4 t) := by
  have h := out5_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t)
  unfold outsAt0
  rw [fst_of]
  exact h

/-- The array of quantised activations after the run. -/
theorem final6 (c : Dev nD) : (dats m 0 c).arrAt 6 (cfgs 0).N = fun i : S1536x1024.Idx => xc (argX m c) (argS m c) (i 0) (i 1) := by
  refine (dats m 0 c).arrAt_eq_of_after_last 6 t0_0 (by decide +kernel) _ fun j => ?_
  blk_simp
  rw [after0_6, outs6]
  obtain ⟨R, n, rfl⟩ : ∃ (R : Fin 1536) (n : Fin 1024), j = ix2 R n := ⟨j 0, j 1, eq_ix2 j⟩
  refine (pay2_apply _ R n).trans ((pay5_apply _ _ _ _ _).trans ?_)
  rw [blk0, blk1]; rfl

/-- The array of row maxima after the run. -/
theorem final7 (c : Dev nD) : (dats m 0 c).arrAt 7 (cfgs 0).N = fun i : S6x256.Idx => amax (argX m c) (i 0) (i 1) := by
  refine (dats m 0 c).arrAt_eq_of_after_last 7 t0_0 (by decide +kernel) _ fun j => ?_
  blk_simp
  rw [after0_7, outs7]
  obtain ⟨R, n, rfl⟩ : ∃ (R : Fin 6) (n : Fin 256), j = ix2 R n := ⟨j 0, j 1, eq_ix2 j⟩
  refine (pay4_apply _ R n).trans ?_
  simp only [blk1]; rfl

/-- The output array after the run. -/
theorem final5 (c : Dev nD) : (dats m 0 c).arrAt 5 (cfgs 0).N
    = fun i : S1536x11264.Idx => y (argX m c) (argS m c) (argW m c) (argG m c) (argWs m c) (i 0) (i 1) := by
  refine (dats m 0 c).arrAt_eq_of_after_last 5 t0_0 (by decide +kernel) _ fun j => ?_
  blk_simp
  rw [after0_5, outs5]
  obtain ⟨R, n, rfl⟩ : ∃ (R : Fin 1536) (n : Fin 11264), j = ix2 R n := ⟨j 0, j 1, eq_ix2 j⟩
  refine (pay1_apply _ _ _ _ _ R n).trans ?_
  simp only [blk0, blk1, blk2, blk3, blk4]; rfl

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameBits
public import proofs.«01_k».proof.Proof.FrameIdeal
public import proofs.«01_k».proof.Proof.ValueArrays
public import proofs.«01_k».proof.Proof.ValueReference
public import Idealize.ShloMosaic.Lib.Claim
public import Idealize.ShloMosaic.Adequacy
public import Idealize.ShloMosaic.Init

@[expose] public section

noncomputable section

namespace Cert.Proof

open Idealize.ShloMosaic Idealize.SL.Sem

/-- Every claim: the three programs end and leave their arguments; the ideal program is the kernel over the extended reals;
    and from the same arguments kernel and reference end with the same three results, since each ends with the layer's
    (`Cert.Spec`), element by element. -/
theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g, fun m g _ => Cert.ReferenceIdeal.Gen.frame m g, trivial, by
  pair_intro
  · run_from Cert.KernelIdeal.Run.run_main m g
  · have hx : ∀ c, Cert.ReferenceIdeal.Val.argX m' c = Cert.KernelIdeal.Val.argX m c := fun c => funext fun b => funext fun r => funext fun k =>
      congrFun (hagree c).1 (ix3 b r k)
    have hs : ∀ c, Cert.ReferenceIdeal.Val.argS m' c = Cert.KernelIdeal.Val.argS m c := fun c => congrFun (hagree c).2.1 (ix1 0)
    have hw : ∀ c, Cert.ReferenceIdeal.Val.argW m' c = Cert.KernelIdeal.Val.argW m c := fun c => funext fun k => funext fun n =>
      congrFun (hagree c).2.2.1 (ix2 k n)
    have hg : ∀ c, Cert.ReferenceIdeal.Val.argG m' c = Cert.KernelIdeal.Val.argG m c := fun c => funext fun q => funext fun n =>
      congrFun (hagree c).2.2.2.1 (ix2 q n)
    have hws : ∀ c, Cert.ReferenceIdeal.Val.argWs m' c = Cert.KernelIdeal.Val.argWs m c := fun c => funext fun n =>
      congrFun (hagree c).2.2.2.2 (ix1 n)
    run_from Cert.ReferenceIdeal.Gen.run_main m' g'
    · rw [Cert.ReferenceIdeal.Val.final5, Cert.KernelIdeal.Val.final5, hx, hs, hw, hg, hws]
    · rw [Cert.ReferenceIdeal.Val.final6, Cert.KernelIdeal.Val.final6, hx, hs]
    · rw [Cert.ReferenceIdeal.Val.final7, Cert.KernelIdeal.Val.final7, hx]⟩

end Cert.Proof

end
